-- ==== Defs.lean ====
def Pre_Kernel (m : (ℓ : Loc Cert.Kernel.nD Cert.Kernel.τ Cert.Kernel.sig) → Buf (Elt Bits) ℓ) : Prop :=
  True

def Pre_Selection (m : (ℓ : Loc Cert.Selection.nD Cert.Selection.τ Cert.Selection.sig) → Buf (Elt Bits) ℓ) : Prop :=
  True

def Pre_SelectionIdeal (m : (ℓ : Loc Cert.SelectionIdeal.nD Cert.SelectionIdeal.τ Cert.SelectionIdeal.sig) → Buf (Elt Ideal) ℓ) : Prop :=
  True

def Pre_SelectionIdeal_finite_and_drawn [hPre_finite_and_drawn : Cert.Pre_finite_and_drawn.Facts] (m : (ℓ : Loc Cert.SelectionIdeal.nD Cert.SelectionIdeal.τ Cert.SelectionIdeal.sig) → Buf (Elt Ideal) ℓ) : Prop :=
  ∀ c : Dev Cert.SelectionIdeal.nD,
    (Cert.Pre_finite_and_drawn.fn (F := Ideal) (m ((c.tc : Thread Cert.SelectionIdeal.nD Cert.SelectionIdeal.τ).loc Cert.SelectionIdeal.main_arg0)) (m ((c.tc : Thread Cert.SelectionIdeal.nD Cert.SelectionIdeal.τ).loc Cert.SelectionIdeal.main_arg1)) (m ((c.tc : Thread Cert.SelectionIdeal.nD Cert.SelectionIdeal.τ).loc Cert.SelectionIdeal.main_arg2)) (m ((c.tc : Thread Cert.SelectionIdeal.nD Cert.SelectionIdeal.τ).loc Cert.SelectionIdeal.main_arg3)) (m ((c.tc : Thread Cert.SelectionIdeal.nD Cert.SelectionIdeal.τ).loc Cert.SelectionIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_drawn [hPre_finite_and_drawn : Cert.Pre_finite_and_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Selection [hSelection : Cert.Selection.Facts] : Prop :=
  ∀ (m : (ℓ : Loc Cert.Selection.nD Cert.Selection.τ Cert.Selection.sig) → Buf (Elt Bits) ℓ) (g : Dev Cert.Selection.nD → PrngReg), Pre_Selection m →
    θ_run (Cert.Selection.defs (F := Bits)) (onTc (τ := Cert.Selection.τ) (Cert.Selection.main (F := Bits))) ⟨m, fun _ => 0, g⟩ (fun r => (∀ c : Dev Cert.Selection.nD,
      r.2.mem ((c.tc : Thread Cert.Selection.nD Cert.Selection.τ).loc Cert.Selection.main_arg0) = m ((c.tc : Thread Cert.Selection.nD Cert.Selection.τ).loc Cert.Selection.main_arg0)
      ∧ r.2.mem ((c.tc : Thread Cert.Selection.nD Cert.Selection.τ).loc Cert.Selection.main_arg1) = m ((c.tc : Thread Cert.Selection.nD Cert.Selection.τ).loc Cert.Selection.main_arg1)
      ∧ r.2.mem ((c.tc : Thread Cert.Selection.nD Cert.Selection.τ).loc Cert.Selection.main_arg2) = m ((c.tc : Thread Cert.Selection.nD Cert.Selection.τ).loc Cert.Selection.main_arg2)
      ∧ r.2.mem ((c.tc : Thread Cert.Selection.nD Cert.Selection.τ).loc Cert.Selection.main_arg3) = m ((c.tc : Thread Cert.Selection.nD Cert.Selection.τ).loc Cert.Selection.main_arg3)
      ∧ r.2.mem ((c.tc : Thread Cert.Selection.nD Cert.Selection.τ).loc Cert.Selection.main_arg4) = m ((c.tc : Thread Cert.Selection.nD Cert.Selection.τ).loc Cert.Selection.main_arg4))
      ∧ r.2.sem = fun _ => 0)

def quiescent_SelectionIdeal [hSelectionIdeal : Cert.SelectionIdeal.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
      ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
      ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2)
      ∧ r.2.mem ((c.tc : Thread Cert.SelectionIdeal.nD Cert.SelectionIdeal.τ).loc Cert.SelectionIdeal.main_arg3) = m ((c.tc : Thread Cert.SelectionIdeal.nD Cert.SelectionIdeal.τ).loc Cert.SelectionIdeal.main_arg3)
      ∧ r.2.mem ((c.tc : Thread Cert.SelectionIdeal.nD Cert.SelectionIdeal.τ).loc Cert.SelectionIdeal.main_arg4) = m ((c.tc : Thread Cert.SelectionIdeal.nD Cert.SelectionIdeal.τ).loc Cert.SelectionIdeal.main_arg4))
      ∧ r.2.sem = fun _ => 0)

def quiescent_SelectionIdeal_pre_finite_and_drawn [hSelectionIdeal : Cert.SelectionIdeal.Facts] [hPre_finite_and_drawn : Cert.Pre_finite_and_drawn.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal_finite_and_drawn m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
      ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
      ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2)
      ∧ r.2.mem ((c.tc : Thread Cert.SelectionIdeal.nD Cert.SelectionIdeal.τ).loc Cert.SelectionIdeal.main_arg3) = m ((c.tc : Thread Cert.SelectionIdeal.nD Cert.SelectionIdeal.τ).loc Cert.SelectionIdeal.main_arg3)
      ∧ r.2.mem ((c.tc : Thread Cert.SelectionIdeal.nD Cert.SelectionIdeal.τ).loc Cert.SelectionIdeal.main_arg4) = m ((c.tc : Thread Cert.SelectionIdeal.nD Cert.SelectionIdeal.τ).loc Cert.SelectionIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_drawn [hReferenceIdeal : Cert.ReferenceIdeal.Facts] [hPre_finite_and_drawn : Cert.Pre_finite_and_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def bitexact_Kernel_Selection [hKernel : Cert.Kernel.Facts] [hSelection : Cert.Selection.Facts] : Prop :=
  ∀ (m : (ℓ : Loc Cert.Kernel.nD Cert.Kernel.τ Cert.Kernel.sig) → Buf (Elt Bits) ℓ) (g : Dev Cert.Kernel.nD → PrngReg)
    (m' : (ℓ : Loc Cert.Selection.nD Cert.Selection.τ Cert.Selection.sig) → Buf (Elt Bits) ℓ) (g' : Dev Cert.Selection.nD → PrngReg), Pre_Kernel m →
    (∀ c : Dev Cert.Kernel.nD,
      m' ((c.tc : Thread Cert.Selection.nD Cert.Selection.τ).loc Cert.Selection.main_arg0) = m ((c.tc : Thread Cert.Kernel.nD Cert.Kernel.τ).loc Cert.Kernel.main_arg0)
      ∧ m' ((c.tc : Thread Cert.Selection.nD Cert.Selection.τ).loc Cert.Selection.main_arg1) = m ((c.tc : Thread Cert.Kernel.nD Cert.Kernel.τ).loc Cert.Kernel.main_arg1)
      ∧ m' ((c.tc : Thread Cert.Selection.nD Cert.Selection.τ).loc Cert.Selection.main_arg2) = m ((c.tc : Thread Cert.Kernel.nD Cert.Kernel.τ).loc Cert.Kernel.main_arg2)
      ∧ m' ((c.tc : Thread Cert.Selection.nD Cert.Selection.τ).loc Cert.Selection.main_arg3) = m ((c.tc : Thread Cert.Kernel.nD Cert.Kernel.τ).loc Cert.Kernel.main_arg3)
      ∧ m' ((c.tc : Thread Cert.Selection.nD Cert.Selection.τ).loc Cert.Selection.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_v4) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Selection.defs (F := Bits)) (onTc (τ := Cert.Selection.τ) (Cert.Selection.main (F := Bits))) ⟨m', fun _ => 0, g'⟩ (fun r => ∀ c : Dev Cert.Selection.nD,
          r.2.mem ((c.tc : Thread Cert.Selection.nD Cert.Selection.τ).loc Cert.Selection.main_v28) = v0 c
          ∧ r.2.mem ((c.tc : Thread Cert.Selection.nD Cert.Selection.τ).loc Cert.Selection.main_v27) = v1 c
          ∧ r.2.mem ((c.tc : Thread Cert.Selection.nD Cert.Selection.τ).loc Cert.Selection.main_arg0) = m' ((c.tc : Thread Cert.Selection.nD Cert.Selection.τ).loc Cert.Selection.main_arg0)
          ∧ r.2.mem ((c.tc : Thread Cert.Selection.nD Cert.Selection.τ).loc Cert.Selection.main_arg1) = m' ((c.tc : Thread Cert.Selection.nD Cert.Selection.τ).loc Cert.Selection.main_arg1)
          ∧ r.2.mem ((c.tc : Thread Cert.Selection.nD Cert.Selection.τ).loc Cert.Selection.main_arg2) = m' ((c.tc : Thread Cert.Selection.nD Cert.Selection.τ).loc Cert.Selection.main_arg2)
          ∧ r.2.mem ((c.tc : Thread Cert.Selection.nD Cert.Selection.τ).loc Cert.Selection.main_arg3) = m' ((c.tc : Thread Cert.Selection.nD Cert.Selection.τ).loc Cert.Selection.main_arg3)
          ∧ r.2.mem ((c.tc : Thread Cert.Selection.nD Cert.Selection.τ).loc Cert.Selection.main_arg4) = m' ((c.tc : Thread Cert.Selection.nD Cert.Selection.τ).loc Cert.Selection.main_arg4))

def preserves_Selection_SelectionIdeal : Prop :=
  True

def algebraic_SelectionIdeal_ReferenceIdeal_pre_finite_and_drawn [hSelectionIdeal : Cert.SelectionIdeal.Facts] [hReferenceIdeal : Cert.ReferenceIdeal.Facts] [hPre_finite_and_drawn : Cert.Pre_finite_and_drawn.Facts] : Prop :=
  ∀ (m : (ℓ : Loc Cert.SelectionIdeal.nD Cert.SelectionIdeal.τ Cert.SelectionIdeal.sig) → Buf (Elt Ideal) ℓ) (g : Dev Cert.SelectionIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SelectionIdeal_finite_and_drawn m →
    (∀ c : Dev Cert.SelectionIdeal.nD,
      m' ((c.tc : Thread Cert.ReferenceIdeal.nD Cert.ReferenceIdeal.τ).loc Cert.ReferenceIdeal.main_arg0) = m ((c.tc : Thread Cert.SelectionIdeal.nD Cert.SelectionIdeal.τ).loc Cert.SelectionIdeal.main_arg0)
      ∧ m' ((c.tc : Thread Cert.ReferenceIdeal.nD Cert.ReferenceIdeal.τ).loc Cert.ReferenceIdeal.main_arg1) = m ((c.tc : Thread Cert.SelectionIdeal.nD Cert.SelectionIdeal.τ).loc Cert.SelectionIdeal.main_arg1)
      ∧ m' ((c.tc : Thread Cert.ReferenceIdeal.nD Cert.ReferenceIdeal.τ).loc Cert.ReferenceIdeal.main_arg2) = m ((c.tc : Thread Cert.SelectionIdeal.nD Cert.SelectionIdeal.τ).loc Cert.SelectionIdeal.main_arg2)
      ∧ m' ((c.tc : Thread Cert.ReferenceIdeal.nD Cert.ReferenceIdeal.τ).loc Cert.ReferenceIdeal.main_arg3) = m ((c.tc : Thread Cert.SelectionIdeal.nD Cert.SelectionIdeal.τ).loc Cert.SelectionIdeal.main_arg3)
      ∧ m' ((c.tc : Thread Cert.ReferenceIdeal.nD Cert.ReferenceIdeal.τ).loc Cert.ReferenceIdeal.main_arg4) = m ((c.tc : Thread Cert.SelectionIdeal.nD Cert.SelectionIdeal.τ).loc Cert.SelectionIdeal.main_arg4)) →
    ∃ (v0 : (c : Dev Cert.SelectionIdeal.nD) → Buf (Elt Ideal) ((c.tc : Thread Cert.SelectionIdeal.nD Cert.SelectionIdeal.τ).loc Cert.SelectionIdeal.main_v28)) (v1 : (c : Dev Cert.SelectionIdeal.nD) → Buf (Elt Ideal) ((c.tc : Thread Cert.SelectionIdeal.nD Cert.SelectionIdeal.τ).loc Cert.SelectionIdeal.main_v27)),
      θ_run (Cert.SelectionIdeal.defs (F := Ideal)) (onTc (τ := Cert.SelectionIdeal.τ) (Cert.SelectionIdeal.main (F := Ideal))) ⟨m, fun _ => 0, g⟩ (fun r => ∀ c : Dev Cert.SelectionIdeal.nD,
          r.2.mem ((c.tc : Thread Cert.SelectionIdeal.nD Cert.SelectionIdeal.τ).loc Cert.SelectionIdeal.main_v28) = v0 c
          ∧ r.2.mem ((c.tc : Thread Cert.SelectionIdeal.nD Cert.SelectionIdeal.τ).loc Cert.SelectionIdeal.main_v27) = v1 c
          ∧ r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)
          ∧ r.2.mem ((c.tc : Thread Cert.SelectionIdeal.nD Cert.SelectionIdeal.τ).loc Cert.SelectionIdeal.main_arg1) = m ((c.tc : Thread Cert.SelectionIdeal.nD Cert.SelectionIdeal.τ).loc Cert.SelectionIdeal.main_arg1)
          ∧ r.2.mem ((c.tc : Thread Cert.SelectionIdeal.nD Cert.SelectionIdeal.τ).loc Cert.SelectionIdeal.main_arg2) = m ((c.tc : Thread Cert.SelectionIdeal.nD Cert.SelectionIdeal.τ).loc Cert.SelectionIdeal.main_arg2)
          ∧ r.2.mem ((c.tc : Thread Cert.SelectionIdeal.nD Cert.SelectionIdeal.τ).loc Cert.SelectionIdeal.main_arg3) = m ((c.tc : Thread Cert.SelectionIdeal.nD Cert.SelectionIdeal.τ).loc Cert.SelectionIdeal.main_arg3)
          ∧ r.2.mem ((c.tc : Thread Cert.SelectionIdeal.nD Cert.SelectionIdeal.τ).loc Cert.SelectionIdeal.main_arg4) = m ((c.tc : Thread Cert.SelectionIdeal.nD Cert.SelectionIdeal.τ).loc Cert.SelectionIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hSelection : Cert.Selection.Facts) (hSelectionIdeal : Cert.SelectionIdeal.Facts) (hReferenceIdeal : Cert.ReferenceIdeal.Facts) (hPre_finite_and_drawn : Cert.Pre_finite_and_drawn.Facts),
    quiescent_Kernel (hKernel := hKernel)
    ∧ quiescent_Selection (hSelection := hSelection)
    ∧ quiescent_SelectionIdeal (hSelectionIdeal := hSelectionIdeal)
    ∧ quiescent_SelectionIdeal_pre_finite_and_drawn (hSelectionIdeal := hSelectionIdeal) (hPre_finite_and_drawn := hPre_finite_and_drawn)
    ∧ quiescent_ReferenceIdeal (hReferenceIdeal := hReferenceIdeal)
    ∧ quiescent_ReferenceIdeal_pre_finite_and_drawn (hReferenceIdeal := hReferenceIdeal) (hPre_finite_and_drawn := hPre_finite_and_drawn)
    ∧ bitexact_Kernel_Selection (hKernel := hKernel) (hSelection := hSelection)
    ∧ preserves_Selection_SelectionIdeal
    ∧ algebraic_SelectionIdeal_ReferenceIdeal_pre_finite_and_drawn (hSelectionIdeal := hSelectionIdeal) (hReferenceIdeal := hReferenceIdeal) (hPre_finite_and_drawn := hPre_finite_and_drawn)
-- ==== Pre_finite_and_drawn.lean ====
abbrev S4x96x384x384 : Shape := ⟨4, ![4, 96, 384, 384]⟩
abbrev S32x96 : Shape := ⟨2, ![32, 96]⟩
abbrev S1x32 : Shape := ⟨2, ![1, 32]⟩
abbrev S1 : Shape := ⟨1, ![1]⟩
abbrev S4x1x384x384 : Shape := ⟨4, ![4, 1, 384, 384]⟩
abbrev S_ : Shape := ⟨0, ![]⟩

class Facts : Prop where
  bcast_S_S4x96x384x384 : S_.BroadcastsInDim S4x96x384x384 (![] : Fin 0 → Fin S4x96x384x384.rank)
  reducesTo_S4x96x384x384_S_d0_1_2_3 : S4x96x384x384.ReducesTo [0, 1, 2, 3] S_
  h_S_ : 0 < S_.numel
  bcast_S_S32x96 : S_.BroadcastsInDim S32x96 (![] : Fin 0 → Fin S32x96.rank)
  reducesTo_S32x96_S_d0_1 : S32x96.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S4x1x384x384 : S_.BroadcastsInDim S4x1x384x384 (![] : Fin 0 → Fin S4x1x384x384.rank)
  reducesTo_S4x1x384x384_S_d0_1_2_3 : S4x1x384x384.ReducesTo [0, 1, 2, 3] S_

variable [Facts]

def fn_part1 {F : FTy → Type} [FloatOps F] (main_arg3 : FVec F S1 .f32) (main_arg4 : FVec F S4x1x384x384 .f32) (main_v13 : IVec S_ 1) (main_v15 : IVec S1 1) (main_c_5 : IVec S_ 1) : IVec S_ 1 :=
  let main_v16 : IVec S_ 1 := (fun x v => Host.reduce IntOp.andi x v reducesTo_S1_S_d0 h_S_) main_v15 main_c_5
  let main_v17 : IVec S_ 1 := andi main_v13 main_v16
  let main_cst_6 : FVec F S_ .f32 := constant S_ .f32 0x7F800000#32
  let main_v18 : FVec F S1 .f32 := broadcastInDim S1 ![] bcast_S_S1 main_cst_6
  let main_v19 : IVec S1 1 := cmpf .olt main_arg3 main_v18
  let main_c_7 : IVec S_ 1 := constantI S_ 1 1#1
  let main_v20 : IVec S_ 1 := (fun x v => Host.reduce IntOp.andi x v reducesTo_S1_S_d0 h_S_) main_v19 main_c_7
  let main_v21 : IVec S_ 1 := andi main_v17 main_v20
  let main_cst_8 : FVec F S_ .f32 := constant S_ .f32 0x00000000#32
  let main_v22 : FVec F S4x1x384x384 .f32 := broadcastInDim S4x1x384x384 ![] bcast_S_S4x1x384x384 main_cst_8
  let main_v23 : IVec S4x1x384x384 1 := cmpf .oge main_arg4 main_v22
  let main_c_9 : IVec S_ 1 := constantI S_ 1 1#1
  let main_v24 : IVec S_ 1 := (fun x v => Host.reduce IntOp.andi x v reducesTo_S4x1x384x384_S_d0_1_2_3 h_S_) main_v23 main_c_9
  let main_v25 : IVec S_ 1 := andi main_v21 main_v24
  let main_cst_10 : FVec F S_ .f32 := constant S_ .f32 0x3F800000#32
  let main_v26 : FVec F S4x1x384x384 .f32 := broadcastInDim S4x1x384x384 ![] bcast_S_S4x1x384x384 main_cst_10
  let main_v27 : IVec S4x1x384x384 1 := cmpf .olt main_arg4 main_v26
  let main_c_11 : IVec S_ 1 := constantI S_ 1 1#1
  let main_v28 : IVec S_ 1 := (fun x v => Host.reduce IntOp.andi x v reducesTo_S4x1x384x384_S_d0_1_2_3 h_S_) main_v27 main_c_11
  let main_v29 : IVec S_ 1 := andi main_v25 main_v28
  main_v29

def fn {F : FTy → Type} [FloatOps F] (main_arg0 : FVec F S4x96x384x384 .f32) (main_arg1 : FVec F S32x96 .f32) (main_arg2 : FVec F S1x32 .f32) (main_arg3 : FVec F S1 .f32) (main_arg4 : FVec F S4x1x384x384 .f32) : IVec S_ 1 :=
  let main_v0 : FVec F S4x96x384x384 .f32 := Host.absf main_arg0
  let main_cst : FVec F S_ .f32 := constant S_ .f32 0x7F800000#32
  let main_v1 : FVec F S4x96x384x384 .f32 := broadcastInDim S4x96x384x384 ![] bcast_S_S4x96x384x384 main_cst
  let main_v2 : IVec S4x96x384x384 1 := cmpf .olt main_v0 main_v1
  let main_c : IVec S_ 1 := constantI S_ 1 1#1
  let main_v3 : IVec S_ 1 := (fun x v => Host.reduce IntOp.andi x v reducesTo_S4x96x384x384_S_d0_1_2_3 h_S_) main_v2 main_c
  let main_v4 : FVec F S32x96 .f32 := Host.absf main_arg1
  let main_cst_0 : FVec F S_ .f32 := constant S_ .f32 0x7F800000#32
  let main_v5 : FVec F S32x96 .f32 := broadcastInDim S32x96 ![] bcast_S_S32x96 main_cst_0
  let main_v6 : IVec S32x96 1 := cmpf .olt main_v4 main_v5
  let main_c_1 : IVec S_ 1 := constantI S_ 1 1#1
  let main_v7 : IVec S_ 1 := (fun x v => Host.reduce IntOp.andi x v reducesTo_S32x96_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_cst_4 : FVec F S_ .f32 := constant S_ .f32 0x00000000#32
  let main_v14 : FVec F S1 .f32 := broadcastInDim S1 ![] bcast_S_S1 main_cst_4
  let main_v15 : IVec S1 1 := cmpf .ogt main_arg3 main_v14
  let main_c_5 : IVec S_ 1 := constantI S_ 1 1#1
  fn_part1 (F := F) main_arg3 main_arg4 main_v13 main_v15 main_c_5
-- ==== Kernel.lean ====
abbrev S4x96x384x384 : Shape := ⟨4, ![4, 96, 384, 384]⟩
abbrev S32x96 : Shape := ⟨2, ![32, 96]⟩
abbrev S1x32 : Shape := ⟨2, ![1, 32]⟩
abbrev S1 : Shape := ⟨1, ![1]⟩
abbrev S4x1x384x384 : Shape := ⟨4, ![4, 1, 384, 384]⟩
abbrev S4x96x147456 : Shape := ⟨3, ![4, 96, 147456]⟩
abbrev S4x147456 : Shape := ⟨2, ![4, 147456]⟩
abbrev S4x96x8192 : Shape := ⟨3, ![4, 96, 8192]⟩
abbrev S4x8192 : Shape := ⟨2, ![4, 8192]⟩
abbrev S4x128 : Shape := ⟨2, ![4, 128]⟩
abbrev S1x96x8192 : Shape := ⟨3, ![1, 96, 8192]⟩
abbrev S96x8192 : Shape := ⟨2, ![96, 8192]⟩
abbrev S32x8192 : Shape := ⟨2, ![32, 8192]⟩
abbrev S1x8192 : Shape := ⟨2, ![1, 8192]⟩
abbrev S4x1 : Shape := ⟨2, ![4, 1]⟩
abbrev S4 : Shape := ⟨1, ![4]⟩

abbrev nBuf : Space → Nat
  | .hbm => 11
  | .vmem => 14
  | .smem => 0
  | _ => 0

abbrev bufTy : (tb : Table) → Fin (tcTables nBuf tb) → BufTy
  | .hbm, ⟨0, _⟩ => ⟨S4x96x384x384, .f32⟩
  | .hbm, ⟨1, _⟩ => ⟨S32x96, .f32⟩
  | .hbm, ⟨2, _⟩ => ⟨S1x32, .f32⟩
  | .hbm, ⟨3, _⟩ => ⟨S1, .f32⟩
  | .hbm, ⟨4, _⟩ => ⟨S4x1x384x384, .f32⟩
  | .hbm, ⟨5, _⟩ => ⟨S4x96x147456, .f32⟩
  | .hbm, ⟨6, _⟩ => ⟨S4x147456, .f32⟩
  | .hbm, ⟨7, _⟩ => ⟨S4x147456, .f32⟩
  | .hbm, ⟨8, _⟩ => ⟨S4x147456, .f32⟩
  | .hbm, ⟨9, _⟩ => ⟨S4x1x384x384, .f32⟩
  | .hbm, ⟨10, _⟩ => ⟨S4x1x384x384, .f32⟩
  | .local _ .vmem, ⟨0, _⟩ => ⟨S4x96x8192, .f32⟩
  | .local _ .vmem, ⟨1, _⟩ => ⟨S4x96x8192, .f32⟩
  | .local _ .vmem, ⟨2, _⟩ => ⟨S32x96, .f32⟩
  | .local _ .vmem, ⟨3, _⟩ => ⟨S1x32, .f32⟩
  | .local _ .vmem, ⟨4, _⟩ => ⟨S4x8192, .f32⟩
  | .local _ .vmem, ⟨5, _⟩ => ⟨S4x8192, .f32⟩
  | .local _ .vmem, ⟨6, _⟩ => ⟨S4x8192, .f32⟩
  | .local _ .vmem, ⟨7, _⟩ => ⟨S4x8192, .f32⟩
  | .local _ .vmem, ⟨8, _⟩ => ⟨S4x8192, .f32⟩
  | .local _ .vmem, ⟨9, _⟩ => ⟨S4x8192, .f32⟩
  | .local _ .vmem, ⟨10, _⟩ => ⟨S4x147456, .i32⟩
  | .local _ .vmem, ⟨11, _⟩ => ⟨S4x147456, .f32⟩
  | .local _ .vmem, ⟨12, _⟩ => ⟨S4x128, .i32⟩
  | .local _ .vmem, ⟨13, _⟩ => ⟨S4x128, .i32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![36], ![false]⟩

def k0_cond1 (i : grid0.Coords) : BitVec 1 :=
  let arg0 : BitVec 32 := BitVec.ofNat 32 (i 0).val
  let c18_i32 : BitVec 32 := 18#32
  let v0 : BitVec 1 := Scalar.cmpi .slt arg0 c18_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_34 : Index := 0#32
  let c8192_i32 : BitVec 32 := 8192#32
  let arg0 : BitVec 32 := BitVec.ofNat 32 (i 0).val
  let v55 : BitVec 32 := Scalar.muli c8192_i32 arg0
  let v56 : Index := Scalar.indexCast v55
  ![0, v56.toNat]
def k0_cond2 (i : grid0.Coords) : BitVec 1 :=
  let arg0 : BitVec 32 := BitVec.ofNat 32 (i 0).val
  let c18_i32_0 : BitVec 32 := 18#32
  let v3 : BitVec 1 := Scalar.cmpi .eq arg0 c18_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_5 : BitVec 32 := 0#32
  let c32_i32 : BitVec 32 := 32#32
  let v11 : BitVec 32 := Scalar.addi c0_i32_5 c32_i32
  let c1_i32 : BitVec 32 := 1#32
  ⟨c0_i32_5, v11, c1_i32⟩
@[reducible] def k0_t2_loop : Scf.Loop 32 :=
  let c0_i32_10 : BitVec 32 := 0#32
  let c18_i32_11 : BitVec 32 := 18#32
  let v25 : BitVec 32 := Scalar.addi c0_i32_10 c18_i32_11
  let c1_i32_12 : BitVec 32 := 1#32
  ⟨c0_i32_10, v25, c1_i32_12⟩
def k0_cond3 (i : grid0.Coords) : BitVec 1 :=
  let arg0 : BitVec 32 := BitVec.ofNat 32 (i 0).val
  let c18_i32_2 : BitVec 32 := 18#32
  let v6 : BitVec 1 := Scalar.cmpi .sge arg0 c18_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let c0 : Index := 0#32
  let c8192_i32 : BitVec 32 := 8192#32
  let arg0 : BitVec 32 := BitVec.ofNat 32 (i 0).val
  let c18_i32_4 : BitVec 32 := 18#32
  let v9 : BitVec 32 := Scalar.subi arg0 c18_i32_4
  let v10 : BitVec 32 := Scalar.muli c8192_i32 v9
  let v11 : Index := Scalar.indexCast v10
  ![0, v11.toNat]
def cc0_transform_0 (i : grid0.Coords) : Fin 3 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S4x96x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Selection.lean ====
abbrev S4x96x384x384 : Shape := ⟨4, ![4, 96, 384, 384]⟩
abbrev S32x96 : Shape := ⟨2, ![32, 96]⟩
abbrev S1x32 : Shape := ⟨2, ![1, 32]⟩
abbrev S1 : Shape := ⟨1, ![1]⟩
abbrev S4x1x384x384 : Shape := ⟨4, ![4, 1, 384, 384]⟩
abbrev S4x96x18x8192 : Shape := ⟨4, ![4, 96, 18, 8192]⟩
abbrev S4x18x96x8192 : Shape := ⟨4, ![4, 18, 96, 8192]⟩
abbrev S72x96x8192 : Shape := ⟨3, ![72, 96, 8192]⟩
abbrev S72x1x8192 : Shape := ⟨3, ![72, 1, 8192]⟩
abbrev S1x96x8192 : Shape := ⟨3, ![1, 96, 8192]⟩
abbrev S96x8192 : Shape := ⟨2, ![96, 8192]⟩
abbrev S32x8192 : Shape := ⟨2, ![32, 8192]⟩
abbrev S1x8192 : Shape := ⟨2, ![1, 8192]⟩
abbrev S1x1x8192 : Shape := ⟨3, ![1, 1, 8192]⟩
abbrev S4x1x147456 : Shape := ⟨3, ![4, 1, 147456]⟩
abbrev S4x1x14745 : Shape := ⟨3, ![4, 1, 14745]⟩
abbrev S4x14745 : Shape := ⟨2, ![4, 14745]⟩
abbrev S4 : Shape := ⟨1, ![4]⟩
abbrev S4x1 : Shape := ⟨2, ![4, 1]⟩
abbrev S_ : Shape := ⟨0, ![]⟩
abbrev S4x147456 : Shape := ⟨2, ![4, 147456]⟩
abbrev S4x14745x1 : Shape := ⟨3, ![4, 14745, 1]⟩
abbrev S4x14745x2 : Shape := ⟨3, ![4, 14745, 2]⟩

abbrev nBuf : Space → Nat
  | .hbm => 43
  | .vmem => 6
  | .smem => 0
  | _ => 0

abbrev bufTy : (tb : Table) → Fin (tcTables nBuf tb) → BufTy
  | .hbm, ⟨0, _⟩ => ⟨S4x96x384x384, .f32⟩
  | .hbm, ⟨1, _⟩ => ⟨S32x96, .f32⟩
  | .hbm, ⟨2, _⟩ => ⟨S1x32, .f32⟩
  | .hbm, ⟨3, _⟩ => ⟨S1, .f32⟩
  | .hbm, ⟨4, _⟩ => ⟨S4x1x384x384, .f32⟩
  | .hbm, ⟨5, _⟩ => ⟨S4x96x18x8192, .f32⟩
  | .hbm, ⟨6, _⟩ => ⟨S4x18x96x8192, .f32⟩
  | .hbm, ⟨7, _⟩ => ⟨S72x96x8192, .f32⟩
  | .hbm, ⟨8, _⟩ => ⟨S72x1x8192, .f32⟩
  | .hbm, ⟨9, _⟩ => ⟨S4x1x384x384, .f32⟩
  | .hbm, ⟨10, _⟩ => ⟨S4x1x384x384, .f32⟩
  | .hbm, ⟨11, _⟩ => ⟨S4x1x384x384, .f32⟩
  | .hbm, ⟨12, _⟩ => ⟨S4x1x147456, .f32⟩
  | .hbm, ⟨13, _⟩ => ⟨S4x1x14745, .f32⟩
  | .hbm, ⟨14, _⟩ => ⟨S4x1x14745, .i32⟩
  | .hbm, ⟨15, _⟩ => ⟨S4x14745, .i32⟩
  | .hbm, ⟨16, _⟩ => ⟨S4, .i32⟩
  | .hbm, ⟨17, _⟩ => ⟨S4x1, .i32⟩
  | .hbm, ⟨18, _⟩ => ⟨S_, .f32⟩
  | .hbm, ⟨19, _⟩ => ⟨S4x147456, .f32⟩
  | .hbm, ⟨20, _⟩ => ⟨S_, .i32⟩
  | .hbm, ⟨21, _⟩ => ⟨S4x1, .i32⟩
  | .hbm, ⟨22, _⟩ => ⟨S4x1, .i1⟩
  | .hbm, ⟨23, _⟩ => ⟨S_, .i32⟩
  | .hbm, ⟨24, _⟩ => ⟨S4x1, .i32⟩
  | .hbm, ⟨25, _⟩ => ⟨S4x1, .i32⟩
  | .hbm, ⟨26, _⟩ => ⟨S4x1, .i32⟩
  | .hbm, ⟨27, _⟩ => ⟨S_, .i32⟩
  | .hbm, ⟨28, _⟩ => ⟨S4x14745, .i32⟩
  | .hbm, ⟨29, _⟩ => ⟨S4x14745, .i1⟩
  | .hbm, ⟨30, _⟩ => ⟨S_, .i32⟩
  | .hbm, ⟨31, _⟩ => ⟨S4x14745, .i32⟩
  | .hbm, ⟨32, _⟩ => ⟨S4x14745, .i32⟩
  | .hbm, ⟨33, _⟩ => ⟨S4x14745, .i32⟩
  | .hbm, ⟨34, _⟩ => ⟨S4x14745, .i32⟩
  | .hbm, ⟨35, _⟩ => ⟨S4x14745x1, .i32⟩
  | .hbm, ⟨36, _⟩ => ⟨S4x14745x1, .i32⟩
  | .hbm, ⟨37, _⟩ => ⟨S4x14745x2, .i32⟩
  | .hbm, ⟨38, _⟩ => ⟨S_, .f32⟩
  | .hbm, ⟨39, _⟩ => ⟨S4x14745, .f32⟩
  | .hbm, ⟨40, _⟩ => ⟨S4x147456, .f32⟩
  | .hbm, ⟨41, _⟩ => ⟨S4x1x384x384, .f32⟩
  | .hbm, ⟨42, _⟩ => ⟨S4x1x384x384, .f32⟩
  | .local _ .vmem, ⟨0, _⟩ => ⟨S72x96x8192, .f32⟩
  | .local _ .vmem, ⟨1, _⟩ => ⟨S32x96, .f32⟩
  | .local _ .vmem, ⟨2, _⟩ => ⟨S1x32, .f32⟩
  | .local _ .vmem, ⟨3, _⟩ => ⟨S4x1x384x384, .f32⟩
  | .local _ .vmem, ⟨4, _⟩ => ⟨S72x1x8192, .f32⟩
  | .local _ .vmem, ⟨5, _⟩ => ⟨S4x1x384x384, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c72_i32 : BitVec 32 := 72#32
  let v0 : BitVec 32 := Scalar.addi c0_i32 c72_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v14 : Index := Scalar.indexCast arg6
  let c0_13 : Index := 0#32
  let c0_14 : Index := 0#32
  ![v14.toNat, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v22 : Index := Scalar.indexCast arg6
  let c0_20 : Index := 0#32
  let c0_21 : Index := 0#32
  ![v22.toNat, 0, 0]
abbrev stage0_0 : Fin 1 → Memref sig .tc .vmem S72x96x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x96x384x384 : Shape := ⟨4, ![4, 96, 384, 384]⟩
abbrev S32x96 : Shape := ⟨2, ![32, 96]⟩
abbrev S1x32 : Shape := ⟨2, ![1, 32]⟩
abbrev S1 : Shape := ⟨1, ![1]⟩
abbrev S4x1x384x384 : Shape := ⟨4, ![4, 1, 384, 384]⟩
abbrev S32x4x384x384 : Shape := ⟨4, ![32, 4, 384, 384]⟩
abbrev S4x32x384x384 : Shape := ⟨4, ![4, 32, 384, 384]⟩
abbrev S_ : Shape := ⟨0, ![]⟩
abbrev S1x4x384x384 : Shape := ⟨4, ![1, 4, 384, 384]⟩
abbrev S4x1x147456 : Shape := ⟨3, ![4, 1, 147456]⟩
abbrev S4x1 : Shape := ⟨2, ![4, 1]⟩
abbrev S4x1x1 : Shape := ⟨3, ![4, 1, 1]⟩
abbrev S4x1x14745 : Shape := ⟨3, ![4, 1, 14745]⟩
abbrev S4x14745 : Shape := ⟨2, ![4, 14745]⟩
abbrev S4 : Shape := ⟨1, ![4]⟩
abbrev S4x147456 : Shape := ⟨2, ![4, 147456]⟩
abbrev S4x14745x1 : Shape := ⟨3, ![4, 14745, 1]⟩
abbrev S4x14745x2 : Shape := ⟨3, ![4, 14745, 2]⟩

abbrev nBuf : Space → Nat
  | .hbm => 74
  | .vmem => 0
  | .smem => 0
  | _ => 0

abbrev bufTy : (tb : Table) → Fin (tcTables nBuf tb) → BufTy
  | .hbm, ⟨0, _⟩ => ⟨S4x96x384x384, .f32⟩
  | .hbm, ⟨1, _⟩ => ⟨S32x96, .f32⟩
  | .hbm, ⟨2, _⟩ => ⟨S1x32, .f32⟩
  | .hbm, ⟨3, _⟩ => ⟨S1, .f32⟩
  | .hbm, ⟨4, _⟩ => ⟨S4x1x384x384, .f32⟩
  | .hbm, ⟨5, _⟩ => ⟨S32x4x384x384, .f32⟩
  | .hbm, ⟨6, _⟩ => ⟨S4x32x384x384, .f32⟩
  | .hbm, ⟨7, _⟩ => ⟨S_, .f32⟩
  | .hbm, ⟨8, _⟩ => ⟨S4x32x384x384, .f32⟩
  | .hbm, ⟨9, _⟩ => ⟨S4x32x384x384, .f32⟩
  | .hbm, ⟨10, _⟩ => ⟨S1x4x384x384, .f32⟩
  | .hbm, ⟨11, _⟩ => ⟨S4x1x384x384, .f32⟩
  | .hbm, ⟨12, _⟩ => ⟨S_, .f32⟩
  | .hbm, ⟨13, _⟩ => ⟨S4x1x384x384, .f32⟩
  | .hbm, ⟨14, _⟩ => ⟨S4x1x384x384, .f32⟩
  | .hbm, ⟨15, _⟩ => ⟨S4x1x384x384, .f32⟩
  | .hbm, ⟨16, _⟩ => ⟨S4x1x384x384, .f32⟩
  | .hbm, ⟨17, _⟩ => ⟨S_, .f32⟩
  | .hbm, ⟨18, _⟩ => ⟨S4x1x384x384, .f32⟩
  | .hbm, ⟨19, _⟩ => ⟨S4x1x384x384, .f32⟩
  | .hbm, ⟨20, _⟩ => ⟨S4x1x384x384, .f32⟩
  | .hbm, ⟨21, _⟩ => ⟨S4x1x384x384, .f32⟩
  | .hbm, ⟨22, _⟩ => ⟨S4x1x384x384, .f32⟩
  | .hbm, ⟨23, _⟩ => ⟨S4x1x147456, .f32⟩
  | .hbm, ⟨24, _⟩ => ⟨S_, .f32⟩
  | .hbm, ⟨25, _⟩ => ⟨S4x1x147456, .f32⟩
  | .hbm, ⟨26, _⟩ => ⟨S4x1x147456, .f32⟩
  | .hbm, ⟨27, _⟩ => ⟨S_, .f32⟩
  | .hbm, ⟨28, _⟩ => ⟨S4x1, .f32⟩
  | .hbm, ⟨29, _⟩ => ⟨S_, .f32⟩
  | .hbm, ⟨30, _⟩ => ⟨S4x1, .f32⟩
  | .hbm, ⟨31, _⟩ => ⟨S4x1, .f32⟩
  | .hbm, ⟨32, _⟩ => ⟨S4x1x1, .f32⟩
  | .hbm, ⟨33, _⟩ => ⟨S4x1x147456, .f32⟩
  | .hbm, ⟨34, _⟩ => ⟨S4x1x147456, .f32⟩
  | .hbm, ⟨35, _⟩ => ⟨S4x1x147456, .f32⟩
  | .hbm, ⟨36, _⟩ => ⟨S_, .f32⟩
  | .hbm, ⟨37, _⟩ => ⟨S4x1, .f32⟩
  | .hbm, ⟨38, _⟩ => ⟨S4x1x1, .f32⟩
  | .hbm, ⟨39, _⟩ => ⟨S4x1x147456, .f32⟩
  | .hbm, ⟨40, _⟩ => ⟨S4x1x147456, .f32⟩
  | .hbm, ⟨41, _⟩ => ⟨S4x1x14745, .f32⟩
  | .hbm, ⟨42, _⟩ => ⟨S4x1x14745, .i32⟩
  | .hbm, ⟨43, _⟩ => ⟨S4x14745, .i32⟩
  | .hbm, ⟨44, _⟩ => ⟨S4, .i32⟩
  | .hbm, ⟨45, _⟩ => ⟨S4x1, .i32⟩
  | .hbm, ⟨46, _⟩ => ⟨S_, .f32⟩
  | .hbm, ⟨47, _⟩ => ⟨S4x147456, .f32⟩
  | .hbm, ⟨48, _⟩ => ⟨S_, .i32⟩
  | .hbm, ⟨49, _⟩ => ⟨S4x1, .i32⟩
  | .hbm, ⟨50, _⟩ => ⟨S4x1, .i1⟩
  | .hbm, ⟨51, _⟩ => ⟨S_, .i32⟩
  | .hbm, ⟨52, _⟩ => ⟨S4x1, .i32⟩
  | .hbm, ⟨53, _⟩ => ⟨S4x1, .i32⟩
  | .hbm, ⟨54, _⟩ => ⟨S4x1, .i32⟩
  | .hbm, ⟨55, _⟩ => ⟨S_, .i32⟩
  | .hbm, ⟨56, _⟩ => ⟨S4x14745, .i32⟩
  | .hbm, ⟨57, _⟩ => ⟨S4x14745, .i1⟩
  | .hbm, ⟨58, _⟩ => ⟨S_, .i32⟩
  | .hbm, ⟨59, _⟩ => ⟨S4x14745, .i32⟩
  | .hbm, ⟨60, _⟩ => ⟨S4x14745, .i32⟩
  | .hbm, ⟨61, _⟩ => ⟨S4x14745, .i32⟩
  | .hbm, ⟨62, _⟩ => ⟨S4x14745, .i32⟩
  | .hbm, ⟨63, _⟩ => ⟨S4x14745x1, .i32⟩
  | .hbm, ⟨64, _⟩ => ⟨S4x14745x1, .i32⟩
  | .hbm, ⟨65, _⟩ => ⟨S4x14745x2, .i32⟩
  | .hbm, ⟨66, _⟩ => ⟨S_, .f32⟩
  | .hbm, ⟨67, _⟩ => ⟨S4x14745, .f32⟩
  | .hbm, ⟨68, _⟩ => ⟨S4x147456, .f32⟩
  | .hbm, ⟨69, _⟩ => ⟨S4x1x384x384, .f32⟩
  | .hbm, ⟨70, _⟩ => ⟨S4x1x384x384, .f32⟩
  | .hbm, ⟨71, _⟩ => ⟨S4x1x384x384, .f32⟩
  | .hbm, ⟨72, _⟩ => ⟨S4x1x384x384, .f32⟩
  | .hbm, ⟨73, _⟩ => ⟨S4x1x384x384, .f32⟩
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_values : Ref sig .tc := ⟨.hbm, 41, rfl⟩
abbrev main_indices : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.KernelRun.lean ====
/- What one grid point of the fused kernel does to its buffers: a point of the first half fills one block of
   columns of the two tables, the first point of the second half searches the tables for the cut and emits a
   block, and each later point emits a block. -/
module

public import proofs.«01_k».proof.Proof.Gen.Kernel.Frame
public import proofs.«01_k».proof.Proof.Gen.Kernel.Skeleton
public import proofs.«01_k».proof.Proof.Gen.Kernel.Loops
public import Idealize.ShloMosaic.Lib.VecWindow

@[expose] public section

set_option maxRecDepth 16384

noncomputable section

namespace Cert.Kernel.Value

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [BitOps F]

local notation "𝕄" => MT nD τ sig Unit (Elt F) ℕ (UR sig nD τ) ℕ

/-- The logits of one block of columns: the two products, batch row by batch row. -/
def blkLogits (x : Vec F S4x96x8192 .f32) (w1 : Vec F S32x96 .f32) (w2 : Vec F S1x32 .f32) : FVec F S4x8192 .f32 :=
  k0_pay11 w1 w2 (window x ![0, 0, 0] S1x96x8192.size inb_S4x96x8192_S1x96x8192_0_0_0)
    (window x ![1, 0, 0] S1x96x8192.size inb_S4x96x8192_S1x96x8192_1_0_0)
    (window x ![2, 0, 0] S1x96x8192.size inb_S4x96x8192_S1x96x8192_2_0_0)
    (window x ![3, 0, 0] S1x96x8192.size inb_S4x96x8192_S1x96x8192_3_0_0)

/-- The sortable integers of one block of columns. -/
def blkKeys (x : Vec F S4x96x8192 .f32) (w1 : Vec F S32x96 .f32) (w2 : Vec F S1x32 .f32) (u : Vec F S4x8192 .f32) : IVec S4x8192 32 :=
  k0_pay1 (blkLogits x w1 w2) (k0_pay12 u) (Scalar.ofBits .f32 0x1E3CE508#32)

/-- The threshold the first search ends with, row by row. -/
def cut (k : Vec F S4x147456 .i32) : IVec S4x1 32 := Scf.fold (k0_pay4 (F := F) k) k0_pay3

/-- The position bound the second search ends with, row by row. -/
def bound (k : Vec F S4x147456 .i32) : IVec S4x1 32 := Scf.fold (k0_pay6 (F := F) k (cut k)) k0_pay5

/-- The mask block an emitting point writes. -/
def emitMask (i : grid0.Coords) (h3 : k0_cond3 i = 1#1) (k : Vec F S4x147456 .i32) (a b : Vec F S4x128 .i32) : FVec F S4x8192 .f32 :=
  k0_pay9 i (window k (k0_off2 i) S4x8192.size (k0_off2_inb i h3)) (window a ![0, 0] S4x1.size inb_S4x128_S4x1_0_0)
    (window b ![0, 0] S4x1.size inb_S4x128_S4x1_0_0)

/-- The masked logits block an emitting point writes. -/
def emitMasked (i : grid0.Coords) (h3 : k0_cond3 i = 1#1) (k : Vec F S4x147456 .i32) (l : Vec F S4x147456 .f32) (a b : Vec F S4x128 .i32) : FVec F S4x8192 .f32 :=
  k0_pay10 i (window k (k0_off2 i) S4x8192.size (k0_off2_inb i h3)) (window l (k0_off2 i) S4x8192.size (k0_off2_inb i h3))
    (window a ![0, 0] S4x1.size inb_S4x128_S4x1_0_0) (window b ![0, 0] S4x1.size inb_S4x128_S4x1_0_0)

/-- The block's logits as the body reads them off its staging memrefs. -/
theorem blkLogits_read (arg1 : Memref sig .tc .vmem S4x96x8192 .f32) (arg2 : Memref sig .tc .vmem S32x96 .f32) (arg3 : Memref sig .tc .vmem S1x32 .f32)
    (f1 : arg1.view.ty.Contents (Elt F)) (f2 : arg2.view.ty.Contents (Elt F)) (f3 : arg3.view.ty.Contents (Elt F)) :
    k0_pay11 (View.readAt (Elt F) arg2.view (Rect.unit (s := S32x96) ![0, 0] S32x96.size inb_S32x96_S32x96_0_0).toLoadRect f2)
        (View.readAt (Elt F) arg3.view (Rect.unit (s := S1x32) ![0, 0] S1x32.size inb_S1x32_S1x32_0_0).toLoadRect f3)
        (View.readAt (Elt F) arg1.view (Rect.unit (s := S4x96x8192) ![0, 0, 0] S1x96x8192.size inb_S4x96x8192_S1x96x8192_0_0_0).toLoadRect f1)
        (View.readAt (Elt F) arg1.view (Rect.unit (s := S4x96x8192) ![1, 0, 0] S1x96x8192.size inb_S4x96x8192_S1x96x8192_1_0_0).toLoadRect f1)
        (View.readAt (Elt F) arg1.view (Rect.unit (s := S4x96x8192) ![2, 0, 0] S1x96x8192.size inb_S4x96x8192_S1x96x8192_2_0_0).toLoadRect f1)
        (View.readAt (Elt F) arg1.view (Rect.unit (s := S4x96x8192) ![3, 0, 0] S1x96x8192.size inb_S4x96x8192_S1x96x8192_3_0_0).toLoadRect f1)
      = blkLogits (View.read (Elt F) arg1.view f1) (View.read (Elt F) arg2.view f2) (View.read (Elt F) arg3.view f3) := by
  unfold blkLogits
  rw [View.readAt_full, View.readAt_full, View.readAt_unit arg1.view f1 _ rfl inb_S4x96x8192_S1x96x8192_0_0_0,
    View.readAt_unit arg1.view f1 _ rfl inb_S4x96x8192_S1x96x8192_1_0_0, View.readAt_unit arg1.view f1 _ rfl inb_S4x96x8192_S1x96x8192_2_0_0,
    View.readAt_unit arg1.view f1 _ rfl inb_S4x96x8192_S1x96x8192_3_0_0]

/-- The block's integers as the body reads them off its staging memrefs. -/
theorem blkKeys_read (x : Vec F S4x96x8192 .f32) (w1 : Vec F S32x96 .f32) (w2 : Vec F S1x32 .f32) (arg4 : Memref sig .tc .vmem S4x8192 .f32)
    (f4 : arg4.view.ty.Contents (Elt F)) :
    k0_pay1 (blkLogits x w1 w2) (k0_pay12 (View.readAt (Elt F) arg4.view (Rect.unit (s := S4x8192) ![0, 0] S4x8192.size inb_S4x8192_S4x8192_0_0).toLoadRect f4))
        (Scalar.ofBits .f32 0x1E3CE508#32)
      = blkKeys x w1 w2 (View.read (Elt F) arg4.view f4) := by
  unfold blkKeys
  rw [View.readAt_full]

/-- The threshold read back after the search stored it. -/
theorem cov_window (v : View sig .tc .vmem S4x128 .i32) (w : Vec F S4x128 .i32) :
    v.readCov [⟨Rect.unit (s := S4x128) ![0, 0] S4x128.size inb_S4x128_S4x128_0_0, w⟩] (Rect.unit (s := S4x128) ![0, 0] S4x1.size inb_S4x128_S4x1_0_0).toLoadRect
      = window w ![0, 0] S4x1.size inb_S4x128_S4x1_0_0 := by
  show View.readAt (Elt F) v _ _ = _
  rw [View.readAt_unit v _ _ rfl inb_S4x128_S4x1_0_0, View.read_writes_full]

set_option maxHeartbeats 1000000 in
/-- A point of the first half: its block of columns of the key table and of the logit table is filled. -/
theorem run_fill (c : Dev nD) (i : grid0.Coords) (h1 : k0_cond1 i = 1#1) (h2 : ¬ k0_cond2 i = 1#1) (h3 : ¬ k0_cond3 i = 1#1)
    (arg1 : Memref sig .tc .vmem S4x96x8192 .f32) (harg1 : arg1.IsWhole)
    (arg2 : Memref sig .tc .vmem S32x96 .f32) (harg2 : arg2.IsWhole)
    (arg3 : Memref sig .tc .vmem S1x32 .f32) (harg3 : arg3.IsWhole)
    (arg4 : Memref sig .tc .vmem S4x8192 .f32) (harg4 : arg4.IsWhole)
    (arg5 : Memref sig .tc .vmem S4x8192 .f32) (harg5 : arg5.IsWhole)
    (arg6 : Memref sig .tc .vmem S4x8192 .f32) (harg6 : arg6.IsWhole)
    (arg7 : Memref sig .tc .vmem S4x147456 .i32) (harg7 : arg7.IsWhole)
    (arg8 : Memref sig .tc .vmem S4x147456 .f32) (harg8 : arg8.IsWhole)
    (arg9 : Memref sig .tc .vmem S4x128 .i32) (harg9 : arg9.IsWhole)
    (arg10 : Memref sig .tc .vmem S4x128 .i32) (harg10 : arg10.IsWhole)
    (x : Vec F S4x96x8192 .f32) (w1 : Vec F S32x96 .f32) (w2 : Vec F S1x32 .f32) (u : Vec F S4x8192 .f32)
    (k : Vec F S4x147456 .i32) (l : Vec F S4x147456 .f32) (E : Set ℕ) (K : PUnit → sProp 𝕄) :
    iprop(owns (c : Thread nD τ) arg1 fullShare x ∗ owns (c : Thread nD τ) arg2 fullShare w1 ∗ owns (c : Thread nD τ) arg3 fullShare w2 ∗ owns (c : Thread nD τ) arg4 fullShare u ∗ owns (c : Thread nD τ) arg7 fullShare k ∗ owns (c : Thread nD τ) arg8 fullShare l
        ∗ (iprop(owns (c : Thread nD τ) arg1 fullShare x ∗ owns (c : Thread nD τ) arg2 fullShare w1 ∗ owns (c : Thread nD τ) arg3 fullShare w2 ∗ owns (c : Thread nD τ) arg4 fullShare u ∗ owns (c : Thread nD τ) arg7 fullShare (put k (k0_off1 i) S4x8192.size (blkKeys x w1 w2 u)) ∗ owns (c : Thread nD τ) arg8 fullShare (put l (k0_off1 i) S4x8192.size (k0_pay2 (blkLogits x w1 w2)))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f7, %hf7, H7⟩, ⟨%f8, %hf8, H8⟩, Hk⟩
  sl_exec (disch := first | exact h1 | exact h2 | exact h3)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H7]
  · iexists _; isplitr; swap; · iexact H7
    ipureintro; subst hf1; subst hf2; subst hf3; subst hf4; subst hf7; subst hf8; exact (View.read_writes_cons_put _ _ _ _ [] rfl).trans (by unfold run_fill.sl.r run_fill.sl.r_1 run_fill.sl.cst_29; rw [blkLogits_read, blkKeys_read, View.writes_nil])
  iexists _; isplitr; swap; · iexact H8
  ipureintro; subst hf1; subst hf2; subst hf3; subst hf4; subst hf7; subst hf8; exact (View.read_writes_cons_put _ _ _ _ [] rfl).trans (by unfold run_fill.sl.r; rw [blkLogits_read, View.writes_nil])

set_option maxHeartbeats 1000000 in
/-- A later point of the second half: the two output blocks. -/
theorem run_emit (c : Dev nD) (i : grid0.Coords) (h1 : ¬ k0_cond1 i = 1#1) (h2 : ¬ k0_cond2 i = 1#1) (h3 : k0_cond3 i = 1#1)
    (arg1 : Memref sig .tc .vmem S4x96x8192 .f32) (harg1 : arg1.IsWhole)
    (arg2 : Memref sig .tc .vmem S32x96 .f32) (harg2 : arg2.IsWhole)
    (arg3 : Memref sig .tc .vmem S1x32 .f32) (harg3 : arg3.IsWhole)
    (arg4 : Memref sig .tc .vmem S4x8192 .f32) (harg4 : arg4.IsWhole)
    (arg5 : Memref sig .tc .vmem S4x8192 .f32) (harg5 : arg5.IsWhole)
    (arg6 : Memref sig .tc .vmem S4x8192 .f32) (harg6 : arg6.IsWhole)
    (arg7 : Memref sig .tc .vmem S4x147456 .i32) (harg7 : arg7.IsWhole)
    (arg8 : Memref sig .tc .vmem S4x147456 .f32) (harg8 : arg8.IsWhole)
    (arg9 : Memref sig .tc .vmem S4x128 .i32) (harg9 : arg9.IsWhole)
    (arg10 : Memref sig .tc .vmem S4x128 .i32) (harg10 : arg10.IsWhole)
    (k : Vec F S4x147456 .i32) (l : Vec F S4x147456 .f32) (a b : Vec F S4x128 .i32) (E : Set ℕ) (K : PUnit → sProp 𝕄) :
    iprop((∃ d, owns (c : Thread nD τ) arg5 fullShare d) ∗ (∃ d, owns (c : Thread nD τ) arg6 fullShare d) ∗ owns (c : Thread nD τ) arg7 fullShare k ∗ owns (c : Thread nD τ) arg8 fullShare l ∗ owns (c : Thread nD τ) arg9 fullShare a ∗ owns (c : Thread nD τ) arg10 fullShare b
        ∗ (iprop(owns (c : Thread nD τ) arg5 fullShare (emitMasked i h3 k l a b) ∗ owns (c : Thread nD τ) arg6 fullShare (emitMask i h3 k a b) ∗ owns (c : Thread nD τ) arg7 fullShare k ∗ owns (c : Thread nD τ) arg8 fullShare l ∗ owns (c : Thread nD τ) arg9 fullShare a ∗ owns (c : Thread nD τ) arg10 fullShare b) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%d5, %f5, -, H5⟩, ⟨%d6, %f6, -, H6⟩, ⟨%f7, %hf7, H7⟩, ⟨%f8, %hf8, H8⟩, ⟨%f9, %hf9, H9⟩, ⟨%f10, %hf10, H10⟩, Hk⟩
  sl_exec (disch := first | exact h1 | exact h2 | exact h3)
  sl_step
  iapply Hk
  isplitl [H5]
  · iexists _; isplitr; swap; · iexact H5
    ipureintro; subst hf7; subst hf8; subst hf9; subst hf10; exact View.read_writes_full _ _ _ _ []
  isplitl [H6]
  · iexists _; isplitr; swap; · iexact H6
    ipureintro; subst hf7; subst hf8; subst hf9; subst hf10; exact View.read_writes_full _ _ _ _ []
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  iexists _; isplitr; swap; · iexact H10
  ipureintro; exact hf10

set_option maxHeartbeats 1000000 in
/-- The first point of the second half: the two searches, then the two output blocks. -/
theorem run_select (c : Dev nD) (i : grid0.Coords) (h1 : ¬ k0_cond1 i = 1#1) (h2 : k0_cond2 i = 1#1) (h3 : k0_cond3 i = 1#1)
    (arg1 : Memref sig .tc .vmem S4x96x8192 .f32) (harg1 : arg1.IsWhole)
    (arg2 : Memref sig .tc .vmem S32x96 .f32) (harg2 : arg2.IsWhole)
    (arg3 : Memref sig .tc .vmem S1x32 .f32) (harg3 : arg3.IsWhole)
    (arg4 : Memref sig .tc .vmem S4x8192 .f32) (harg4 : arg4.IsWhole)
    (arg5 : Memref sig .tc .vmem S4x8192 .f32) (harg5 : arg5.IsWhole)
    (arg6 : Memref sig .tc .vmem S4x8192 .f32) (harg6 : arg6.IsWhole)
    (arg7 : Memref sig .tc .vmem S4x147456 .i32) (harg7 : arg7.IsWhole)
    (arg8 : Memref sig .tc .vmem S4x147456 .f32) (harg8 : arg8.IsWhole)
    (arg9 : Memref sig .tc .vmem S4x128 .i32) (harg9 : arg9.IsWhole)
    (arg10 : Memref sig .tc .vmem S4x128 .i32) (harg10 : arg10.IsWhole)
    (k : Vec F S4x147456 .i32) (l : Vec F S4x147456 .f32) (E : Set ℕ) (K : PUnit → sProp 𝕄) :
    iprop((∃ d, owns (c : Thread nD τ) arg5 fullShare d) ∗ (∃ d, owns (c : Thread nD τ) arg6 fullShare d) ∗ owns (c : Thread nD τ) arg7 fullShare k ∗ owns (c : Thread nD τ) arg8 fullShare l ∗ (∃ d, owns (c : Thread nD τ) arg9 fullShare d) ∗ (∃ d, owns (c : Thread nD τ) arg10 fullShare d)
        ∗ (iprop(owns (c : Thread nD τ) arg5 fullShare (emitMasked i h3 k l (k0_pay7 (cut k)) (k0_pay8 (bound k))) ∗ owns (c : Thread nD τ) arg6 fullShare (emitMask i h3 k (k0_pay7 (cut k)) (k0_pay8 (bound k))) ∗ owns (c : Thread nD τ) arg7 fullShare k ∗ owns (c : Thread nD τ) arg8 fullShare l ∗ owns (c : Thread nD τ) arg9 fullShare (k0_pay7 (cut k)) ∗ owns (c : Thread nD τ) arg10 fullShare (k0_pay8 (bound k))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  rw [cc0__fused_kernel_eq_skeleton]; unfold cc0__fused_kernel_skel
  unfold owns
  iintro ⟨⟨%d5, %f5, -, H5⟩, ⟨%d6, %f6, -, H6⟩, ⟨%f7, %hf7, H7⟩, ⟨%f8, %hf8, H8⟩, ⟨%d9, %f9, -, H9⟩, ⟨%d10, %f10, -, H10⟩, Hk⟩
  sl_exec (disch := first | exact h1 | exact h2 | exact h3)
  sl_step
  iapply Hk
  isplitl [H5]
  · iexists _; isplitr; swap; · iexact H5
    ipureintro; subst hf7; subst hf8; refine (View.read_writes_full _ _ _ _ []).trans ?_; unfold run_select.sl.v16 run_select.sl.v17 run_select.sl.H9_1 run_select.sl.H10_1 run_select.sl.r_1 run_select.sl.r; rw [cov_window, cov_window, View.readAt_full]; rfl
  isplitl [H6]
  · iexists _; isplitr; swap; · iexact H6
    ipureintro; subst hf7; refine (View.read_writes_full _ _ _ _ []).trans ?_; unfold run_select.sl.v16 run_select.sl.v17 run_select.sl.H9_1 run_select.sl.H10_1 run_select.sl.r_1 run_select.sl.r; rw [cov_window, cov_window, View.readAt_full]; rfl
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; subst hf7; unfold run_select.sl.H9_1 run_select.sl.r; refine (View.read_writes_full _ _ _ _ []).trans ?_; rw [View.readAt_full]; rfl
  iexists _; isplitr; swap; · iexact H10
  ipureintro; subst hf7; unfold run_select.sl.H10_1 run_select.sl.r_1 run_select.sl.r; refine (View.read_writes_full _ _ _ _ []).trans ?_; rw [View.readAt_full]; rfl

end Cert.Kernel.Value

end
-- ==== Proof.KernelFrame.lean ====
/- The fused kernel's run as a whole: what its two scratch tables hold after each grid point, the contents its
   two outputs are left at, and the frame of its launch. -/
module

public import proofs.«01_k».proof.Proof.KernelRun
public import Idealize.ShloMosaic.Lib.Claim

@[expose] public section

set_option maxRecDepth 16384

noncomputable section

namespace Cert.Kernel.Value

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [BitOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-! ## The grid in closed form -/

theorem cond1_iff : ∀ t : Fin cfg0.N, k0_cond1 (grid0.coords t) = 1#1 ↔ t.val < 18 := by decide +kernel
theorem cond2_iff : ∀ t : Fin cfg0.N, k0_cond2 (grid0.coords t) = 1#1 ↔ t.val = 18 := by decide +kernel
theorem cond3_iff : ∀ t : Fin cfg0.N, k0_cond3 (grid0.coords t) = 1#1 ↔ 18 ≤ t.val := by decide +kernel
theorem off1_eq : ∀ t : Fin cfg0.N, t.val < 18 → k0_off1 (grid0.coords t) = ![0, 8192 * t.val] := by decide +kernel
theorem off2_eq : ∀ t : Fin cfg0.N, 18 ≤ t.val → k0_off2 (grid0.coords t) = ![0, 8192 * (t.val - 18)] := by decide +kernel
theorem idle4_eq : ∀ t : Fin cfg0.N, cfg0.idle 4 (cfg0.grid.coords t) = decide (t.val < 18) := by decide +kernel
theorem idle5_eq : ∀ t : Fin cfg0.N, cfg0.idle 5 (cfg0.grid.coords t) = decide (t.val < 18) := by decide +kernel
theorem flush4_lo : ∀ t : Fin cfg0.N, t.val < 18 → (cfg0.win 4).flush t = false := by decide +kernel
theorem flush5_lo : ∀ t : Fin cfg0.N, t.val < 18 → (cfg0.win 5).flush t = false := by decide +kernel

/-! ## The tables -/

/-- The grid point that fills column `n` of the tables. -/
def colPoint (n : Fin 147456) : Fin cfg0.N := ⟨n.val / 8192, lt_of_lt_of_eq (show n.val / 8192 < 36 by omega) N_0.symm⟩

/-- Where in its block of columns a table position lies. -/
def inBlock (y : S4x147456.Idx) : S4x8192.Idx := fun a => match a with
  | ⟨0, _⟩ => ⟨(y 0).val, (y 0).isLt⟩
  | ⟨1, _⟩ => ⟨(y 1).val % 8192, Nat.mod_lt _ (by decide)⟩

/-- The block of keys that point `t` writes. -/
def keyBlock (c : Dev nD) (t : Fin cfg0.N) : Vec F S4x8192 .i32 :=
  blkKeys (iblk m c 0 t) (iblk m c 1 t) (iblk m c 2 t) (iblk m c 3 t)

/-- The block of logits that point `t` writes. -/
def lgBlock (c : Dev nD) (t : Fin cfg0.N) : Vec F S4x8192 .f32 :=
  k0_pay2 (blkLogits (iblk m c 0 t) (iblk m c 1 t) (iblk m c 2 t))

/-- All the keys. -/
def keyTab (c : Dev nD) : Vec F S4x147456 .i32 := fun y => keyBlock m c (colPoint (y 1)) (inBlock y)

/-- All the logits. -/
def lgTab (c : Dev nD) : Vec F S4x147456 .f32 := fun y => lgBlock m c (colPoint (y 1)) (inBlock y)

/-- One more block of columns: a table that agrees with `T` before point `t`'s block agrees before the next once
    that block is put in. -/
theorem put_step {e : EltTy} (B : Fin cfg0.N → Vec F S4x8192 e) (k : Vec F S4x147456 e) (t : Fin cfg0.N) (ht : t.val < 18)
    (hk : ∀ y : S4x147456.Idx, (y 1).val < 8192 * t.val → k y = B (colPoint (y 1)) (inBlock y)) (y : S4x147456.Idx)
    (hy : (y 1).val < 8192 * (t.val + 1)) :
    put k (k0_off1 (grid0.coords t)) S4x8192.size (B t) y = B (colPoint (y 1)) (inBlock y) := by
  unfold put
  split
  · rename_i h
    have h1 := h 1
    rw [off1_eq t ht] at h1
    have h1a : 8192 * t.val ≤ (y 1).val := h1.1
    have hp : colPoint (y 1) = t := Fin.ext (show (y 1).val / 8192 = t.val by omega)
    rw [hp]
    congr 1
    funext a
    match a with
    | ⟨0, _⟩ =>
      apply Fin.ext
      rw [Rect.unitLocal_val]
      have h0 : (k0_off1 (grid0.coords t)) 0 = 0 := by rw [off1_eq t ht]; rfl
      show (y 0).val - k0_off1 (grid0.coords t) 0 = (y 0).val
      omega
    | ⟨1, _⟩ =>
      apply Fin.ext
      rw [Rect.unitLocal_val]
      have h0 : (k0_off1 (grid0.coords t)) 1 = 8192 * t.val := by rw [off1_eq t ht]; rfl
      show (y 1).val - k0_off1 (grid0.coords t) 1 = (y 1).val % 8192
      omega
  · rename_i h
    apply hk
    by_contra hc
    apply h
    intro a
    rw [off1_eq t ht]
    match a with
    | ⟨0, _⟩ => exact ⟨Nat.zero_le _, by have := (y 0).isLt; show (y 0).val < 0 + 4; exact (Nat.zero_add 4).symm ▸ this⟩
    | ⟨1, _⟩ =>
      refine ⟨?_, ?_⟩
      · show 8192 * t.val ≤ (y 1).val; omega
      · show (y 1).val < 8192 * t.val + 8192; omega

/-! ## The invariant -/

/-- What is known of the four scratch buffers before point `n`: the tables filled up to its columns, and past the
    searching point the threshold and the index bound found. -/
def Known (c : Dev nD) (n : ℕ) (k : Vec F S4x147456 .i32) (l : Vec F S4x147456 .f32) (a : Vec F S4x128 .i32) (b : Vec F S4x128 .i32) : Prop :=
  (∀ y : S4x147456.Idx, (y 1).val < 8192 * n → k y = keyTab m c y ∧ l y = lgTab m c y)
    ∧ (19 ≤ n → a = k0_pay7 (cut (keyTab m c)) ∧ b = k0_pay8 (bound (keyTab m c)))

theorem Known.full {c : Dev nD} {n : ℕ} {k l a b} (h : Known m c n k l a b) (hn : 18 ≤ n) : k = keyTab m c ∧ l = lgTab m c :=
  ⟨funext fun y => (h.1 y (by have := (y 1).isLt; have h2 : (y 1).val < 147456 := this; omega)).1,
    funext fun y => (h.1 y (by have := (y 1).isLt; have h2 : (y 1).val < 147456 := this; omega)).2⟩

/-- The scratch buffers before point `n`, and the generator register. -/
def Scratch (c : Dev nD) (n : ℕ) : sProp 𝕄 :=
  iprop(∃ k, ∃ l, ∃ a, ∃ b, ⌜Known m c n k l a b⌝
    ∗ owns (c : Thread nD τ) (Memref.whole cc0_scratch0) fullShare k
    ∗ owns (c : Thread nD τ) (Memref.whole cc0_scratch1) fullShare l
    ∗ owns (c : Thread nD τ) (Memref.whole cc0_scratch2) fullShare a
    ∗ owns (c : Thread nD τ) (Memref.whole cc0_scratch3) fullShare b
    ∗ ∃ r, prngReg c r)

/-! ## What the outputs hold -/

/-- The masked logits that point `t` emits (nothing is asked of it before the second half). -/
def outLogits (c : Dev nD) (t : Fin cfg0.N) : Vec F S4x8192 .f32 :=
  if h3 : k0_cond3 (grid0.coords t) = 1#1 then
    emitMasked (grid0.coords t) h3 (keyTab m c) (lgTab m c) (k0_pay7 (cut (keyTab m c))) (k0_pay8 (bound (keyTab m c)))
  else lgBlock m c t

/-- The mask that point `t` emits. -/
def outMask (c : Dev nD) (t : Fin cfg0.N) : Vec F S4x8192 .f32 :=
  if h3 : k0_cond3 (grid0.coords t) = 1#1 then
    emitMask (grid0.coords t) h3 (keyTab m c) (k0_pay7 (cut (keyTab m c))) (k0_pay8 (bound (keyTab m c)))
  else lgBlock m c t

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLogits m c t
    | ⟨5, _⟩ => outMask m c t
  Φ t := Scratch m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outLogits m c t := by dsimp only [dats]
theorem after0_5 (c : Dev nD) (t : Fin cfg0.N) : (dats m 0 c).after 5 t = outMask m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem Φ_start (c : Dev nD) (t : Fin cfg0.N) : (dats m 0 c).Φ t.castSucc = Scratch m c t.val := by
  dsimp only [dats]; rw [Fin.val_castSucc]
theorem Φ_end (c : Dev nD) (t : Fin cfg0.N) : (dats m 0 c).Φ t.succ = Scratch m c (t.val + 1) := by
  dsimp only [dats]; rw [Fin.val_succ]

/-! ## The staging buffers at a point -/

abbrev ms0_0 (t : Fin cfg0.N) : Memref sig .tc .vmem S4x96x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x96 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x8192 .f32 := win0_5.stage (cfg0.slots t 5)
abbrev hs0_5 (t : Fin cfg0.N) : (ms0_5 t).IsWhole := hstage0_5 ((cfg0.slots t 5).cast nbuf0_5)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns at a point of the first half: the outputs' buffers as found. -/
def fillPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare ((dats m 0 c).before 4 t d))
    ∗ (∃ d, owns (c : Thread nD τ) (ms0_5 t) fullShare ((dats m 0 c).before 5 t d)))

/-- What it returns at a point of the second half. -/
def emitPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- A point of the first half. -/
theorem sound_fill (c : Dev nD) (t : Fin cfg0.N) (ht : t.val < 18) :
    bodyPre m c t ⊢ wp frame (wpE (defs₀ (F := F)) Variants.none c none) Set.univ (bodyAt0 t) (fun _ => fillPost m c t) := by
  unfold bodyPre fillPost bodyAt0
  simp only [before0_0, before0_1, before0_2, before0_3]
  rw [show (dats m 0 c).owesAt () t.succ = (dats m 0 c).owesAt () t.castSucc from rfl,
    after0_0, after0_1, after0_2, after0_3, Φ_start, Φ_end]
  unfold Scratch
  iintro ⟨⟨%k, %l, %a, %b, %hK, Hk, Hl, Ha, Hb, Hr⟩, Ho, ⟨%d0, H0⟩, ⟨%d1, H1⟩, ⟨%d2, H2⟩, ⟨%d3, H3⟩, H4, H5⟩
  iapply (run_fill c (grid0.coords t) ((cond1_iff t).2 ht) (fun h => absurd ((cond2_iff t).1 h) (by omega)) (fun h => absurd ((cond3_iff t).1 h) (by omega))
    _ _ _ _ _ _ _ _ _ _ _ _ _ _ _ _ _ _ _ _ (iblk m c 0 t) (iblk m c 1 t) (iblk m c 2 t) (iblk m c 3 t) k l Set.univ _)
  isplitl [H0]; · iexact H0
  isplitl [H1]; · iexact H1
  isplitl [H2]; · iexact H2
  isplitl [H3]; · iexact H3
  isplitl [Hk]; · iexact Hk
  isplitl [Hl]; · iexact Hl
  iintro ⟨H0, H1, H2, H3, Hk, Hl⟩
  isplitl [Hk Hl Ha Hb Hr]
  · iexists _; iexists _; iexists _; iexists _
    isplitr
    swap
    · isplitl [Hk]; · iexact Hk
      isplitl [Hl]; · iexact Hl
      isplitl [Ha]; · iexact Ha
      isplitl [Hb]; · iexact Hb
      iexact Hr
    ipureintro
    refine ⟨fun y hy => ⟨?_, ?_⟩, fun h => absurd h (by omega)⟩
    · exact put_step (keyBlock m c) k t ht (fun y hy => (hK.1 y hy).1) y hy
    · exact put_step (lgBlock m c) l t ht (fun y hy => (hK.1 y hy).2) y hy
  isplitl [Ho]; · iexact Ho
  isplitl [H0]; · iexact H0
  isplitl [H1]; · iexact H1
  isplitl [H2]; · iexact H2
  isplitl [H3]; · iexact H3
  isplitl [H4]; · iexact H4
  iexact H5

set_option maxHeartbeats 800000 in
/-- The searching point. -/
theorem sound_select (c : Dev nD) (t : Fin cfg0.N) (ht : t.val = 18) :
    bodyPre m c t ⊢ wp frame (wpE (defs₀ (F := F)) Variants.none c none) Set.univ (bodyAt0 t) (fun _ => emitPost m c t) := by
  unfold bodyPre emitPost bodyAt0
  simp only [before0_0, before0_1, before0_2, before0_3]
  have h3 : k0_cond3 (grid0.coords t) = 1#1 := (cond3_iff t).2 (by omega)
  rw [show (dats m 0 c).owesAt () t.succ = (dats m 0 c).owesAt () t.castSucc from rfl,
    after0_0, after0_1, after0_2, after0_3, after0_4, after0_5, Φ_start, Φ_end]
  unfold Scratch outLogits outMask
  rw [dif_pos h3, dif_pos h3]
  iintro ⟨⟨%k, %l, %a, %b, %hK, Hk, Hl, Ha, Hb, Hr⟩, Ho, ⟨%d0, H0⟩, ⟨%d1, H1⟩, ⟨%d2, H2⟩, ⟨%d3, H3⟩, ⟨%d4, H4⟩, ⟨%d5, H5⟩⟩
  obtain ⟨rfl, rfl⟩ := hK.full m (by omega)
  iapply (run_select c (grid0.coords t) (fun h => absurd ((cond1_iff t).1 h) (by omega)) ((cond2_iff t).2 ht) h3
    _ (hs0_0 t) _ (hs0_1 t) _ (hs0_2 t) _ (hs0_3 t) _ _ _ _ _ _ _ _ _ _ _ _ (keyTab m c) (lgTab m c) Set.univ _)
  isplitl [H4]; · iexists _; iexact H4
  isplitl [H5]; · iexists _; iexact H5
  isplitl [Hk]; · iexact Hk
  isplitl [Hl]; · iexact Hl
  isplitl [Ha]; · iexists _; iexact Ha
  isplitl [Hb]; · iexists _; iexact Hb
  iintro ⟨H4, H5, Hk, Hl, Ha, Hb⟩
  isplitl [Hk Hl Ha Hb Hr]
  · iexists _; iexists _; iexists _; iexists _
    isplitr
    swap
    · isplitl [Hk]; · iexact Hk
      isplitl [Hl]; · iexact Hl
      isplitl [Ha]; · iexact Ha
      isplitl [Hb]; · iexact Hb
      iexact Hr
    ipureintro
    exact ⟨fun y _ => ⟨rfl, rfl⟩, fun _ => ⟨rfl, rfl⟩⟩
  isplitl [Ho]; · iexact Ho
  isplitl [H0]; · iexact H0
  isplitl [H1]; · iexact H1
  isplitl [H2]; · iexact H2
  isplitl [H3]; · iexact H3
  isplitl [H4]; · iexact H4
  iexact H5

set_option maxHeartbeats 800000 in
/-- A later point of the second half. -/
theorem sound_emit (c : Dev nD) (t : Fin cfg0.N) (ht : 18 < t.val) :
    bodyPre m c t ⊢ wp frame (wpE (defs₀ (F := F)) Variants.none c none) Set.univ (bodyAt0 t) (fun _ => emitPost m c t) := by
  unfold bodyPre emitPost bodyAt0
  simp only [before0_0, before0_1, before0_2, before0_3]
  have h3 : k0_cond3 (grid0.coords t) = 1#1 := (cond3_iff t).2 (by omega)
  rw [show (dats m 0 c).owesAt () t.succ = (dats m 0 c).owesAt () t.castSucc from rfl,
    after0_0, after0_1, after0_2, after0_3, after0_4, after0_5, Φ_start, Φ_end]
  unfold Scratch outLogits outMask
  rw [dif_pos h3, dif_pos h3]
  iintro ⟨⟨%k, %l, %a, %b, %hK, Hk, Hl, Ha, Hb, Hr⟩, Ho, ⟨%d0, H0⟩, ⟨%d1, H1⟩, ⟨%d2, H2⟩, ⟨%d3, H3⟩, ⟨%d4, H4⟩, ⟨%d5, H5⟩⟩
  obtain ⟨rfl, rfl⟩ := hK.full m (by omega)
  obtain ⟨rfl, rfl⟩ := hK.2 (by omega)
  iapply (run_emit c (grid0.coords t) (fun h => absurd ((cond1_iff t).1 h) (by omega)) (fun h => absurd ((cond2_iff t).1 h) (by omega)) h3
    _ (hs0_0 t) _ (hs0_1 t) _ (hs0_2 t) _ (hs0_3 t) _ _ _ _ _ _ _ _ _ _ _ _ (keyTab m c) (lgTab m c) _ _ Set.univ _)
  isplitl [H4]; · iexists _; iexact H4
  isplitl [H5]; · iexists _; iexact H5
  isplitl [Hk]; · iexact Hk
  isplitl [Hl]; · iexact Hl
  isplitl [Ha]; · iexact Ha
  isplitl [Hb]; · iexact Hb
  iintro ⟨H4, H5, Hk, Hl, Ha, Hb⟩
  isplitl [Hk Hl Ha Hb Hr]
  · iexists _; iexists _; iexists _; iexists _
    isplitr
    swap
    · isplitl [Hk]; · iexact Hk
      isplitl [Hl]; · iexact Hl
      isplitl [Ha]; · iexact Ha
      isplitl [Hb]; · iexact Hb
      iexact Hr
    ipureintro
    exact ⟨fun y _ => ⟨rfl, rfl⟩, fun _ => ⟨rfl, rfl⟩⟩
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  rw [idle4_eq t]
  by_cases ht : t.val < 18
  · rw [decide_eq_true ht, flush4_lo t ht, flush5_lo t ht]
    exact triple_restated (sound_fill m c t ht) rfl .rfl fun _ => .rfl
  · rw [decide_eq_false ht]
    by_cases h : t.val = 18
    · exact triple_restated (sound_select m c t h) rfl .rfl fun _ => .rfl
    · exact triple_restated (sound_emit m c t (by omega)) rfl .rfl fun _ => .rfl

/-! ## The launch -/

/-- The scratch buffers at anything are the invariant at the first point. -/
theorem scratch_in (c : Dev nD) : Pipeline.ΦA spec0 c ⊢ ((dats (F := F) m 0 c).Φ 0 : sProp 𝕄) := by
  rw [show (dats (F := F) m 0 c).Φ 0 = Scratch m c 0 from rfl]
  unfold Pipeline.ΦA Scratch
  rw [scopedRest0_eq]
  simp only [owns_whole]
  iintro ⟨⟨⟨%k, Hk⟩, ⟨%l, Hl⟩, ⟨%a, Ha⟩, ⟨%b, Hb⟩⟩, Hr⟩
  iexists k; iexists l; iexists a; iexists b
  isplitr
  · ipureintro; exact ⟨fun y hy => absurd hy (by omega), fun h => absurd h (by omega)⟩
  isplitl [Hk]; · iexact Hk
  isplitl [Hl]; · iexact Hl
  isplitl [Ha]; · iexact Ha
  isplitl [Hb]; · iexact Hb
  iexact Hr

/-- After the last point the scratch buffers hold something. -/
theorem scratch_out (c : Dev nD) : (dats (F := F) m 0 c).Φ (Fin.last cfg0.N) ⊢ (Pipeline.ΦA spec0 c : sProp 𝕄) := by
  rw [show (dats (F := F) m 0 c).Φ (Fin.last cfg0.N) = Scratch m c cfg0.N from rfl]
  unfold Pipeline.ΦA Scratch
  rw [scopedRest0_eq]
  simp only [owns_whole]
  iintro ⟨%k, %l, %a, %b, %hK, Hk, Hl, Ha, Hb, Hr⟩
  isplitl [Hk Hl Ha Hb]
  · isplitl [Hk]; · iexists _; iexact Hk
    isplitl [Hl]; · iexists _; iexact Hl
    isplitl [Ha]; · iexists _; iexact Ha
    iexists _; iexact Hb
  iexact Hr

set_option backward.isDefEq.respectTransparency.types false in
set_option maxHeartbeats 800000 in
/-- The launch: every array ends as the proof data says, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := scratch_in m) (hout := scratch_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.Kernel.Value

end
-- ==== Proof.KernelValue.lean ====
/- What the fused kernel leaves in its two result arrays, as functions of the tables of keys and logits. -/
module

public import proofs.«01_k».proof.Proof.KernelFrame
public import Idealize.ShloMosaic.Lib.Pipeline.ValueKit
public import Idealize.ShloMosaic.Lib.Claim

@[expose] public section

set_option maxRecDepth 16384

noncomputable section

namespace Cert.Kernel.Value

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [BitOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The grid point that emits column `n`. -/
def emitPoint (n : Fin 147456) : Fin cfg0.N := ⟨18 + n.val / 8192, lt_of_lt_of_eq (show 18 + n.val / 8192 < 36 by omega) N_0.symm⟩

/-- The whole mask. -/
def allMask (c : Dev nD) : Vec F S4x147456 .f32 := fun y => outMask m c (emitPoint (y 1)) (inBlock y)

/-- All the masked logits. -/
def allLogits (c : Dev nD) : Vec F S4x147456 .f32 := fun y => outLogits m c (emitPoint (y 1)) (inBlock y)

theorem emit_point_of (t : Fin cfg0.N) (ht : 18 ≤ t.val) (z : S4x147456.Idx) (y : S4x8192.Idx)
    (h0 : (z 0).val = (y 0).val) (h1 : (z 1).val = 8192 * (t.val - 18) + (y 1).val) :
    emitPoint (z 1) = t ∧ inBlock z = y := by
  have hy : (y 1).val < 8192 := (y 1).isLt
  constructor
  · apply Fin.ext
    show 18 + (z 1).val / 8192 = t.val
    omega
  · funext a
    match a with
    | ⟨0, _⟩ => exact Fin.ext h0
    | ⟨1, _⟩ =>
      apply Fin.ext
      show (z 1).val % 8192 = (y 1).val
      omega

theorem index4_eq : ∀ t : Fin cfg0.N, 18 ≤ t.val → win0_4.index t 0 = 0 ∧ win0_4.index t 1 = t.val - 18 := by decide +kernel
theorem index5_eq : ∀ t : Fin cfg0.N, 18 ≤ t.val → win0_5.index t 0 = 0 ∧ win0_5.index t 1 = t.val - 18 := by decide +kernel

theorem arr4 (c : Dev nD) : (dats m 0 c).arrAt 4 cfg0.N = allLogits m c := by
  refine (dats m 0 c).arrAt_eq_of_covers 4 _ (by decide +kernel) fun t hf y => ?_
  have ht : 18 ≤ t.val := by
    by_contra h
    rw [flush4_lo t (by omega)] at hf; cases hf
  obtain ⟨i0, i1⟩ := index4_eq t ht
  blk_simp
  rw [after0_4]
  have h0 : (((win0_4.blk t).view.emb y) 0).val = (y 0).val := by
    blk_simp
    rw [i0]; omega
  have h1 : (((win0_4.blk t).view.emb y) 1).val = 8192 * (t.val - 18) + (y 1).val := by
    blk_simp
    rw [i1]; omega
  obtain ⟨e1, e2⟩ := emit_point_of t ht _ y h0 h1
  show _ = outLogits m c _ _
  rw [e1, e2]

theorem arr5 (c : Dev nD) : (dats m 0 c).arrAt 5 cfg0.N = allMask m c := by
  refine (dats m 0 c).arrAt_eq_of_covers 5 _ (by decide +kernel) fun t hf y => ?_
  have ht : 18 ≤ t.val := by
    by_contra h
    rw [flush5_lo t (by omega)] at hf; cases hf
  obtain ⟨i0, i1⟩ := index5_eq t ht
  blk_simp
  rw [after0_5]
  have h0 : (((win0_5.blk t).view.emb y) 0).val = (y 0).val := by
    blk_simp
    rw [i0]; omega
  have h1 : (((win0_5.blk t).view.emb y) 1).val = 8192 * (t.val - 18) + (y 1).val := by
    blk_simp
    rw [i1]; omega
  obtain ⟨e1, e2⟩ := emit_point_of t ht _ y h0 h1
  show _ = outMask m c _ _
  rw [e1, e2]

/-! ## Position by position -/

/-- Row `n` of a column. -/
def rowAt (n : Fin 4) : S4x1.Idx := fun a => match a with
  | ⟨0, _⟩ => n
  | ⟨1, _⟩ => ⟨0, Nat.one_pos⟩

/-- Whether the kernel takes a position: its key is above the cut, or at the cut and not past the bound. -/
def takes (k : Vec F S4x147456 .i32) (y : S4x147456.Idx) : Bool :=
  (cut k (rowAt (y 0))).slt (k y) || (k y == cut k (rowAt (y 0))) && (BitVec.ofNat 32 (y 1).val).sle (bound k (rowAt (y 0)))

theorem coord0 : ∀ t : Fin cfg0.N, (grid0.coords t 0).val = t.val := by decide +kernel

theorem cond3_emit (n : Fin 147456) : k0_cond3 (grid0.coords (emitPoint n)) = 1#1 :=
  (cond3_iff _).2 (show 18 ≤ 18 + n.val / 8192 by omega)

/-- The block that column `y` lies in, read at its place, is the table at `y`. -/
theorem window_emit {e : EltTy} (k : Vec F S4x147456 e) (y : S4x147456.Idx) (h) :
    window k (k0_off2 (grid0.coords (emitPoint (y 1)))) S4x8192.size h (inBlock y) = k y := by
  unfold window
  congr 1
  have e0 := off2_eq (emitPoint (y 1)) (show 18 ≤ 18 + (y 1).val / 8192 by omega)
  funext a
  apply Fin.ext
  match a with
  | ⟨0, _⟩ =>
    show k0_off2 (grid0.coords (emitPoint (y 1))) 0 + 1 * (y 0).val = (y 0).val
    rw [e0]; show 0 + 1 * (y 0).val = _; omega
  | ⟨1, _⟩ =>
    show k0_off2 (grid0.coords (emitPoint (y 1))) 1 + 1 * ((y 1).val % 8192) = (y 1).val
    rw [e0]; show 8192 * (18 + (y 1).val / 8192 - 18) + 1 * ((y 1).val % 8192) = _
    omega

theorem window_cut (v : IVec S4x1 32) (y : S4x147456.Idx) (h) :
    broadcastTo S4x8192 (window (k0_pay7 v) ![0, 0] S4x1.size h : IVec S4x1 32) broadcasts_S4x1_S4x8192 (inBlock y) = v (rowAt (y 0)) := by
  refine (broadcastTo_apply _ _ _ (rowAt (y 0)) ?_).trans ?_
  · intro a
    match a with
    | ⟨0, _⟩ => rfl
    | ⟨1, _⟩ => rfl
  · unfold window k0_pay7
    rw [shapeCast_self, shapeCast_self]
    refine broadcastTo_apply _ _ _ (rowAt (y 0)) ?_
    intro a
    match a with
    | ⟨0, _⟩ => show (y 0).val = 0 + 1 * (y 0).val; omega
    | ⟨1, _⟩ => rfl

theorem window_bound (v : IVec S4x1 32) (y : S4x147456.Idx) (h) :
    broadcastTo S4x8192 (window (k0_pay8 v) ![0, 0] S4x1.size h : IVec S4x1 32) broadcasts_S4x1_S4x8192 (inBlock y) = v (rowAt (y 0)) :=
  window_cut v y h

theorem word_emit (y : S4x147456.Idx) :
    Scalar.muli (Scalar.subi (BitVec.ofNat 32 (grid0.coords (emitPoint (y 1)) 0).val) 18#32) 8192#32 + BitVec.ofNat 32 ((y 1).val % 8192)
      = BitVec.ofNat 32 (y 1).val := by
  rw [coord0]
  have h : (y 1).val < 147456 := (y 1).isLt
  show (BitVec.ofNat 32 (18 + (y 1).val / 8192) - 18#32) * 8192#32 + BitVec.ofNat 32 ((y 1).val % 8192) = _
  apply BitVec.eq_of_toNat_eq
  simp only [BitVec.toNat_add, BitVec.toNat_mul, BitVec.toNat_sub, BitVec.toNat_ofNat]
  omega

theorem pay9_apply (i : grid0.Coords) (v12 : Vec F S4x8192 .i32) (v16 v17 : Vec F S4x1 .i32) (j : S4x8192.Idx) :
    k0_pay9 i v12 v16 v17 j = FloatOps.sitofp (F := F) .f32 (BitVec.setWidth 32 (IntOp.ori
      (IntOp.cmpi .sgt (v12 j) (broadcastTo S4x8192 v16 broadcasts_S4x1_S4x8192 j))
      (IntOp.andi (IntOp.cmpi .eq (v12 j) (broadcastTo S4x8192 v16 broadcasts_S4x1_S4x8192 j))
        (IntOp.cmpi .sle (Scalar.muli (Scalar.subi (BitVec.ofNat 32 (i 0).val) 18#32) 8192#32 + iota .tc S4x8192 32 [1] iota_S4x8192_d1_w32 j)
          (broadcastTo S4x8192 v17 broadcasts_S4x1_S4x8192 j))))) := rfl

theorem word_of_bools (a b c : Bool) :
    BitVec.setWidth 32 (IntOp.ori (BitVec.ofBool a) (IntOp.andi (BitVec.ofBool b) (BitVec.ofBool c))) = if (a || b && c) = true then 1#32 else 0#32 := by
  revert a b c; decide

/-- The mask as a number, one position at a time. -/
theorem allMask_apply (c : Dev nD) (y : S4x147456.Idx) :
    allMask m c y = FloatOps.sitofp (F := F) .f32 (if takes (keyTab m c) y then 1#32 else 0#32) := by
  unfold allMask outMask
  rw [dif_pos (cond3_emit (y 1))]
  unfold emitMask
  rw [pay9_apply, window_emit, window_cut, window_bound, iota_single_apply]
  congr 1
  unfold takes
  rw [← word_emit y]
  exact word_of_bools _ _ _

/-- The masked logits, one position at a time. -/
theorem allLogits_apply (c : Dev nD) (y : S4x147456.Idx) :
    allLogits m c y = FloatOps.mulf (F := F) (φ := .f32) (lgTab m c y) (allMask m c y) := by
  unfold allLogits allMask outLogits outMask
  rw [dif_pos (cond3_emit (y 1)), dif_pos (cond3_emit (y 1))]
  unfold emitMasked k0_pay10
  show FloatOps.mulf (F := F) (φ := .f32) (window (lgTab m c) _ _ _ _) _ = _
  rw [window_emit]
  rfl

/-! ## The results -/

theorem tail_mask (c : Dev nD) :
    Pipeline.afterTail₀ cfgs (dats m) 0 (V0 m) [hostOps1] c main_v4
      = shapeCast S4x1x384x384 (allMask m c) shapeCasts_S4x147456_S4x1x384x384 := by
  unfold Pipeline.afterTail₀
  show StableHlo.after hostOps1 _ (Proc.devRef .tc main_v4) = _
  after_results
  erw [Pipeline.withArrays_arr spec0 launch0.win.arr_inj c _ _ 5]
  erw [arr5]
  rfl

theorem tail_masked (c : Dev nD) :
    Pipeline.afterTail₀ cfgs (dats m) 0 (V0 m) [hostOps1] c main_v3
      = shapeCast S4x1x384x384 (allLogits m c) shapeCasts_S4x147456_S4x1x384x384 := by
  unfold Pipeline.afterTail₀
  show StableHlo.after hostOps1 _ (Proc.devRef .tc main_v3) = _
  after_results
  erw [Pipeline.withArrays_arr spec0 launch0.win.arr_inj c _ _ 4]
  erw [arr4]
  rfl

/-- The run, with what the two results end at. -/
theorem run_value : θ_run defs (onTc (τ := τ) (main (F := F))) ⟨m, fun _ => 0, ρ⟩ (fun r => ∀ c : Dev nD,
      r.2.mem ((c.tc : Thread nD τ).loc main_v3) = shapeCast S4x1x384x384 (allLogits m c) shapeCasts_S4x147456_S4x1x384x384
      ∧ r.2.mem ((c.tc : Thread nD τ).loc main_v4) = shapeCast S4x1x384x384 (allMask m c) shapeCasts_S4x147456_S4x1x384x384) :=
  (θ_run defs _ _).mono (fun r h c =>
    ⟨((h c).2 main_v3 (Pipeline.mem_restRefs_of main_v3 (by decide) (by decide))).trans (tail_masked m c),
     ((h c).2 main_v4 (Pipeline.mem_restRefs_of main_v4 (by decide) (by decide))).trans (tail_mask m c)⟩) (run_main m ρ)

end Cert.Kernel.Value

end
-- ==== Proof.Search.lean ====
/- Two searches, bit by bit from the top, of the largest number with a property that fails upwards. -/
module

public import Idealize.ShloMosaic.Lib.NatWordsOrder
public import Idealize.ShloMosaic.Lib.SortKey

@[expose] public section

namespace Cert.Search

open Idealize.ShloMosaic

/-- What the search knows after `i` of `W` bits: `c` has the property, `c` plus a unit of the bits done has not. -/
structure Known (W : Nat) (p : Nat → Prop) (i c : Nat) : Prop where
  dvd : 2 ^ (W - i) ∣ c
  top : c + 2 ^ (W - i) ≤ 2 ^ W
  has : p c
  not : ¬ p (c + 2 ^ (W - i))

theorem Known.start (W : Nat) (p : Nat → Prop) (h0 : p 0) (h1 : ¬ p (2 ^ W)) : Known W p 0 0 where
  dvd := Dvd.intro 0 rfl
  top := by simp
  has := h0
  not := by simpa using h1

theorem pow_split {W i : Nat} (hi : i < W) : 2 ^ (W - i) = 2 * 2 ^ (W - (i + 1)) := by
  rw [show W - i = W - (i + 1) + 1 by omega, Nat.pow_succ, Nat.mul_comm]

theorem Known.accept {W : Nat} {p : Nat → Prop} {i c : Nat} (h : Known W p i c) (hi : i < W) (hp : p (c + 2 ^ (W - (i + 1)))) :
    Known W p (i + 1) (c + 2 ^ (W - (i + 1))) where
  dvd := by
    have := h.dvd
    rw [pow_split hi] at this
    exact (Nat.dvd_add (Nat.dvd_trans ⟨2, Nat.mul_comm _ _⟩ this) (Nat.dvd_refl _))
  top := by have := h.top; rw [pow_split hi] at this; omega
  has := hp
  not := by have := h.not; rw [pow_split hi] at this; rwa [Nat.add_assoc, ← Nat.two_mul]

theorem Known.reject {W : Nat} {p : Nat → Prop} {i c : Nat} (h : Known W p i c) (hi : i < W) (hp : ¬ p (c + 2 ^ (W - (i + 1)))) :
    Known W p (i + 1) c where
  dvd := by
    have := h.dvd
    rw [pow_split hi] at this
    exact Nat.dvd_trans ⟨2, Nat.mul_comm _ _⟩ this
  top := by have := h.top; rw [pow_split hi] at this; omega
  has := h.has
  not := hp

theorem Known.done {W : Nat} {p : Nat → Prop} {c : Nat} (h : Known W p W c) : p c ∧ ¬ p (c + 1) := by
  have := h.not
  rw [Nat.sub_self] at this
  exact ⟨h.has, this⟩

/-! ## Signed words as unsigned ones -/

/-- A word's place in the signed order, counted from the least. -/
def place (x : BitVec 32) : Nat := (x + 0x80000000#32).toNat

theorem place_lt (x : BitVec 32) : place x < 2 ^ 32 := (x + 0x80000000#32).isLt

theorem place_toInt (x : BitVec 32) : (place x : Int) = x.toInt + 2 ^ 31 := by
  unfold place
  have h := x.isLt
  rw [BitVec.toInt_eq_toNat_cond, BitVec.toNat_add, BitVec.toNat_ofNat]
  split <;> omega

theorem slt_iff_place (x y : BitVec 32) : x.slt y = decide (place x < place y) := by
  have hx := place_toInt x
  have hy := place_toInt y
  rw [BitVec.slt_eq_decide]
  exact decide_eq_decide.mpr (by omega)

theorem sle_iff_place (x y : BitVec 32) : x.sle y = decide (place x ≤ place y) := by
  have hx := place_toInt x
  have hy := place_toInt y
  rw [BitVec.sle_eq_decide]
  exact decide_eq_decide.mpr (by omega)

theorem place_inj {x y : BitVec 32} (h : place x = place y) : x = y := by
  have hx := place_toInt x
  have hy := place_toInt y
  exact BitVec.eq_of_toInt_eq (by omega)

theorem xor_two_pow (q b : Nat) : (2 ^ (b + 1) * q) ^^^ 2 ^ b = 2 ^ (b + 1) * q + 2 ^ b := by
  apply Nat.eq_of_testBit_eq
  intro j
  have hb : 2 ^ b < 2 ^ (b + 1) := Nat.pow_lt_pow_right (by decide) (by omega)
  have h0 := Nat.testBit_two_pow_mul_add q (Nat.two_pow_pos (b + 1)) j
  rw [Nat.add_zero] at h0
  rw [Nat.testBit_xor, h0, Nat.testBit_two_pow_mul_add q hb, Nat.testBit_two_pow]
  by_cases hj : j < b + 1
  · simp [hj]
  · have : b ≠ j := by omega
    simp [hj, this]

/-- Turning bit `31 - i` over adds a unit of that bit, where the bits from it down are clear. -/
theorem place_xor (x : BitVec 32) (i : Nat) (hi : i < 32) (hd : 2 ^ (32 - i) ∣ place x) (ht : place x + 2 ^ (32 - i) ≤ 2 ^ 32) :
    place (x ^^^ BitVec.ofNat 32 (2 ^ (32 - (i + 1)))) = place x + 2 ^ (32 - (i + 1)) := by
  rcases Nat.eq_zero_or_pos i with rfl | hpos
  · have h0 : place x = 0 := by omega
    have hx : x = 0x80000000#32 := place_inj (h0.trans (by decide))
    subst hx; decide
  · obtain ⟨q, hq⟩ := hd
    have hb : 32 - i = (31 - i) + 1 := by omega
    have hb' : 32 - (i + 1) = 31 - i := by omega
    rw [hb] at hq ht
    rw [hb']
    have hp : 2 ^ (31 - i) < 2147483648 := lt_of_lt_of_eq (Nat.pow_lt_pow_right (by decide : 1 < 2) (by omega : 31 - i < 31)) (by decide)
    have h31 : 2147483648 = 2 ^ (31 - i + 1) * 2 ^ (i - 1) := by rw [← Nat.pow_add, show 31 - i + 1 + (i - 1) = 31 by omega]
    have hxl := x.isLt
    unfold place at hq ht ⊢
    rw [BitVec.toNat_add, BitVec.toNat_ofNat] at hq ht
    -- the word itself is a multiple too
    obtain ⟨q', hq'⟩ : ∃ q', x.toNat = 2 ^ (31 - i + 1) * q' := by
      by_cases hx : x.toNat < 2147483648
      · refine ⟨q - 2 ^ (i - 1), ?_⟩
        rw [Nat.mul_sub, ← h31]; omega
      · refine ⟨q + 2 ^ (i - 1), ?_⟩
        rw [Nat.mul_add, ← h31]; omega
    have hxor : (x ^^^ BitVec.ofNat 32 (2 ^ (31 - i))).toNat = x.toNat + 2 ^ (31 - i) := by
      rw [BitVec.toNat_xor, BitVec.toNat_ofNat, Nat.mod_eq_of_lt (by omega), hq', xor_two_pow]
    rw [BitVec.toNat_add, BitVec.toNat_add, BitVec.toNat_ofNat, hxor]
    have hpp : 2 ^ (31 - i + 1) = 2 * 2 ^ (31 - i) := by rw [Nat.pow_succ, Nat.mul_comm]
    omega

end Cert.Search
-- ==== Proof.Rank.lean ====
/- Which positions are among the first of an order: those with few positions before them. Said of a cut and a bound
   on position, and of a stable sort. -/
module

public import Idealize.ShloMosaic.Lib.SortPrefix
public import Mathlib.Data.Fintype.Card
public import Mathlib.Data.Finset.Card

@[expose] public section

namespace Cert.Rank

open Idealize.ShloMosaic

variable {n : Nat}

/-- How many places are at least `x`. -/
def atLeast (κ : Fin n → Nat) (x : Nat) : Nat := (Finset.univ.filter fun j => x ≤ κ j).card

/-- How many of the first `b` positions have place `T`. -/
def ties (κ : Fin n → Nat) (T b : Nat) : Nat := (Finset.univ.filter fun j : Fin n => κ j = T ∧ j.val < b).card

/-- How many positions come before `j`: a greater place, or the same and earlier. -/
def before (κ : Fin n → Nat) (j : Fin n) : Nat := (Finset.univ.filter fun j' => κ j < κ j' ∨ (κ j' = κ j ∧ j' < j)).card

theorem atLeast_anti (κ : Fin n → Nat) {x y : Nat} (h : x ≤ y) : atLeast κ y ≤ atLeast κ x :=
  Finset.card_le_card fun j hj => by
    rw [Finset.mem_filter] at hj ⊢
    exact ⟨hj.1, h.trans hj.2⟩

theorem atLeast_zero (κ : Fin n → Nat) : atLeast κ 0 = n := by
  unfold atLeast
  rw [Finset.filter_true_of_mem fun j _ => Nat.zero_le _, Finset.card_univ, Fintype.card_fin]

theorem atLeast_top (κ : Fin n → Nat) (x : Nat) (h : ∀ j, κ j < x) : atLeast κ x = 0 := by
  unfold atLeast
  rw [Finset.card_eq_zero, Finset.filter_eq_empty_iff]
  exact fun j _ hx => absurd (h j) (by omega)

theorem ties_mono (κ : Fin n → Nat) (T : Nat) {a b : Nat} (h : a ≤ b) : ties κ T a ≤ ties κ T b :=
  Finset.card_le_card fun j hj => by
    rw [Finset.mem_filter] at hj ⊢
    exact ⟨hj.1, hj.2.1, by omega⟩

theorem ties_zero (κ : Fin n → Nat) (T : Nat) : ties κ T 0 = 0 := by
  unfold ties
  rw [Finset.card_eq_zero, Finset.filter_eq_empty_iff]
  exact fun j _ hx => absurd hx.2 (by omega)

/-- The places at least `T` are those above it and those at it. -/
theorem atLeast_split (κ : Fin n → Nat) (T : Nat) {b : Nat} (hb : n ≤ b) : atLeast κ T = atLeast κ (T + 1) + ties κ T b := by
  unfold atLeast ties
  rw [← Finset.card_union_of_disjoint]
  · congr 1
    ext j
    have := j.isLt
    simp only [Finset.mem_filter, Finset.mem_univ, true_and, Finset.mem_union]
    omega
  · rw [Finset.disjoint_left]
    intro j h1 h2
    simp only [Finset.mem_filter, Finset.mem_univ, true_and] at h1 h2
    omega

/-- With the cut at the `K`-th greatest place and the bound on position at the last tie wanted, taking what is above
    the cut, and at the cut up to the bound, is taking the positions with fewer than `K` before them. -/
theorem taken_iff (κ : Fin n → Nat) (K T b : Nat) (hT : K ≤ atLeast κ T) (hT' : ¬ K ≤ atLeast κ (T + 1))
    (hb : ties κ T b < K - atLeast κ (T + 1)) (hb' : ¬ ties κ T (b + 1) < K - atLeast κ (T + 1)) (j : Fin n) :
    (T < κ j ∨ (κ j = T ∧ j.val ≤ b)) ↔ before κ j < K := by
  rcases Nat.lt_trichotomy (κ j) T with h | h | h
  · constructor
    · intro h'; omega
    · intro h'
      have : atLeast κ T ≤ before κ j := Finset.card_le_card fun i hi => by
        simp only [Finset.mem_filter, Finset.mem_univ, true_and] at hi ⊢
        omega
      omega
  · have e : before κ j = atLeast κ (T + 1) + ties κ T j.val := by
      unfold before atLeast ties
      rw [← Finset.card_union_of_disjoint]
      · congr 1
        ext i
        simp only [Finset.mem_filter, Finset.mem_univ, true_and, Finset.mem_union, Fin.lt_def]
        omega
      · rw [Finset.disjoint_left]
        intro i h1 h2
        simp only [Finset.mem_filter, Finset.mem_univ, true_and] at h1 h2
        omega
    rw [e]
    constructor
    · intro h'
      have := ties_mono κ T (show j.val ≤ b by omega)
      omega
    · intro h'
      by_contra hj
      have := ties_mono κ T (show b + 1 ≤ j.val by omega)
      omega
  · constructor
    · intro _
      have : before κ j ≤ atLeast κ (T + 1) := Finset.card_le_card fun i hi => by
        simp only [Finset.mem_filter, Finset.mem_univ, true_and] at hi ⊢
        omega
      omega
    · intro _; omega

/-! ## The same of a stable sort -/

/-- A stable sort of an increasing list of positions, ties broken by position instead. -/
theorem stableSort_tie (B B' : Fin n → Fin n → Bool) (h : ∀ a b, a < b → B b a = B' b a) :
    ∀ l : List (Fin n), l.Pairwise (· < ·) → stableSort B l = stableSort B' l
  | [], _ => rfl
  | a :: l, hl => by
    rw [List.pairwise_cons] at hl
    unfold stableSort
    rw [stableSort_tie B B' h l hl.2]
    exact insertBefore_congr B B' a _ fun b hb => h a b (hl.1 b ((perm_stableSort B' l).mem_iff.mp hb))

theorem sortedFrom_tie (B B' : Fin n → Fin n → Bool) (h : ∀ a b, a < b → B b a = B' b a) (k : Fin n) :
    sortedFrom B k = sortedFrom B' k := by
  have e : sortPositions n B = sortPositions n B' := stableSort_tie B B' h _ (List.pairwise_lt_finRange n)
  unfold sortedFrom
  rw [List.get_of_eq e]
  rfl

/-- In a sort by greater place first, the positions that come out among the first `K` are those with fewer than `K`
    positions before them. -/
theorem sorted_iff (κ : Fin n → Nat) (B : Fin n → Fin n → Bool) (hB : ∀ a b, B a b = decide (κ b < κ a)) (K : Nat) (j : Fin n) :
    (∃ i : Fin n, i.val < K ∧ sortedFrom B i = j) ↔ before κ j < K := by
  let B' : Fin n → Fin n → Bool := fun a b => decide (κ b < κ a) || (decide (κ a = κ b) && decide (a < b))
  have hB' : StrictTotalBefore B' := StrictTotalBefore.of_key_then_position (fun x y : Nat => decide (y < x)) κ
    (fun a => by simp) (fun a b c => by simp only [decide_eq_true_eq]; omega) (fun a b => by simp only [decide_eq_true_eq]; omega)
  have hs : ∀ k, sortedFrom B k = sortedFrom B' k := sortedFrom_tie B B' fun a b hab => by
    rw [hB]
    show _ = (decide (κ a < κ b) || (decide (κ b = κ a) && decide (b < a)))
    rw [decide_eq_false (not_lt.mpr hab.le), Bool.and_false, Bool.or_false]
  have hord : ∀ i i' : Fin n, i < i' → B' (sortedFrom B' i) (sortedFrom B' i') = true := fun i i' h => by
    have h1 := sortedFrom_noInversion B' B' (fun a b h => hB'.asymm a b h) (fun _ _ h => h) hB'.negTrans i i' h
    rcases hB'.total _ _ (fun e => absurd (sortedFrom_injective B' e) (ne_of_lt h)) with h2 | h2
    · exact h2
    · rw [h2] at h1; cases h1
  obtain ⟨i, hi⟩ := sortedFrom_surjective B' j
  have hcard : before κ j = i.val := by
    have e : (Finset.univ.filter fun j' => κ j < κ j' ∨ (κ j' = κ j ∧ j' < j)) = (Finset.univ.filter fun k : Fin n => k < i).image (sortedFrom B') := by
      ext x
      obtain ⟨k, rfl⟩ := sortedFrom_surjective B' x
      have hx : (κ j < κ (sortedFrom B' k) ∨ (κ (sortedFrom B' k) = κ j ∧ sortedFrom B' k < j)) ↔ B' (sortedFrom B' k) j = true := by
        show _ ↔ (decide (κ j < κ (sortedFrom B' k)) || (decide (κ (sortedFrom B' k) = κ j) && decide (sortedFrom B' k < j))) = true
        simp only [Bool.or_eq_true, Bool.and_eq_true, decide_eq_true_eq]
      rw [Finset.mem_filter, hx, Finset.mem_image]
      constructor
      · rintro ⟨-, h⟩
        refine ⟨k, ?_, rfl⟩
        rw [Finset.mem_filter]
        refine ⟨Finset.mem_univ _, ?_⟩
        rcases lt_trichotomy k i with hk | hk | hk
        · exact hk
        · subst hk; rw [hi, hB'.irrefl] at h; cases h
        · have := hB'.asymm _ _ (hord i k hk); rw [hi, h] at this; cases this
      · rintro ⟨k', hk', e⟩
        rw [sortedFrom_injective B' e] at hk'
        rw [Finset.mem_filter] at hk'
        refine ⟨Finset.mem_univ _, ?_⟩
        rw [← hi]; exact hord k i hk'.2
    unfold before
    rw [e, Finset.card_image_of_injective _ (sortedFrom_injective B')]
    have : (Finset.univ.filter fun k : Fin n => k < i) = Finset.Iio i := by ext; simp
    rw [this, Fin.card_Iio]
  constructor
  · rintro ⟨i', h, e⟩
    rw [hs, ← hi] at e
    rw [sortedFrom_injective B' e] at h
    omega
  · intro h
    exact ⟨i, by omega, (hs i).trans hi⟩

end Cert.Rank
-- ==== Proof.KernelSearch.lean ====
/- The two searches of the fused kernel at bit patterns: the cut is at the 14745th greatest key of the row, the bound
   at the last tie wanted, so that what is taken is the first 14745 of the row by key and then position. -/
module

public import proofs.«01_k».proof.Proof.KernelValue
public import proofs.«01_k».proof.Proof.Search
public import proofs.«01_k».proof.Proof.Rank

@[expose] public section

set_option maxRecDepth 16384

noncomputable section

namespace Cert.Kernel.Value

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

open Cert.Search Cert.Rank

/-- Position `j` of row `n`. -/
def posAt (n : Fin 4) (j : Fin 147456) : S4x147456.Idx := fun a => match a with
  | ⟨0, _⟩ => n
  | ⟨1, _⟩ => j

theorem posAt_self (y : S4x147456.Idx) : posAt (y 0) (y 1) = y := by
  funext a
  match a with
  | ⟨0, _⟩ => rfl
  | ⟨1, _⟩ => rfl

/-- A row number as an index of the counts. -/
def cntAt (n : Fin 4) : S4.Idx := fun a => match a with
  | ⟨0, _⟩ => n

/-- Of a row's flags, the count as the kernel forms it is the number of those set. -/
theorem count_row (p : IVec S4x147456 1) (q : Fin 4 → Fin 147456 → Prop) [∀ n, DecidablePred (q n)]
    (hp : ∀ n j, p (posAt n j) = BitVec.ofBool (decide (q n j))) (n : Fin 4) :
    shapeCast S4x1 (multiReduction (F := Bits) .add [1] S4 (sitofp .f32 (extui 32 p natLt_1_32)) 0x00000000#32 reduces_S4x147456_S4 (.inl rfl) rfl)
      shapeCasts_S4_S4x1 (rowAt n) = Bits.f32OfNat (Finset.univ.filter (q n)).card := by
  rw [shapeCast_apply _ _ (rowAt n) (cntAt n) (by
    rw [rowMajor_val1, rowMajor_val2 (rowAt n) 1 rfl]
    show n.val = n.val * 1 + 0
    omega)]
  have hfib : (Bits.reduceFiber reduces_S4x147456_S4 (cntAt n)).sum (fun y => if p y = 1#1 then 1 else 0) = (Finset.univ.filter (q n)).card := by
    rw [Finset.card_filter]
    refine (Finset.sum_nbij' (fun j => posAt n j) (fun y => y 1) ?_ ?_ ?_ ?_ ?_).symm
    · intro j _
      unfold Bits.reduceFiber
      rw [Finset.mem_filter]
      refine ⟨Finset.mem_univ _, ?_⟩
      funext b
      match b with
      | ⟨0, _⟩ => exact Fin.ext (Shape.Reduces.drop_apply_val_of_eq reduces_S4x147456_S4 (posAt n j) 0 0 (by decide))
    · intro y _; exact Finset.mem_univ _
    · intro j _; rfl
    · intro y hy
      unfold Bits.reduceFiber at hy
      rw [Finset.mem_filter] at hy
      have h0 : y 0 = n := by
        apply Fin.ext
        rw [← Shape.Reduces.drop_apply_val_of_eq reduces_S4x147456_S4 y 0 0 (by decide), hy.2]
        rfl
      rw [← h0]; exact posAt_self y
    · intro j _
      rw [hp]
      by_cases hq : q n j
      · rw [if_pos hq, decide_eq_true hq]; rfl
      · rw [if_neg hq, decide_eq_false hq]; rfl
  have hle : (Finset.univ.filter (q n)).card < 2 ^ 24 := by
    refine lt_of_le_of_lt (Finset.card_le_univ _) ?_
    rw [Fintype.card_fin]; norm_num
  rw [Bits.multiReduction_add_nat [1] reduces_S4x147456_S4 _ (cntAt n) (fun y => if p y = 1#1 then 1 else 0) ?_ (by rw [hfib]; exact hle), hfib]
  intro y _
  show Bits.natOfF32? (Bits.sitofp32 (BitVec.setWidth 32 (p y))) = _
  rcases (by decide : ∀ v : BitVec 1, v = 0#1 ∨ v = 1#1) (p y) with h | h <;> rw [h]
  · rw [Bits.sitofp32_eq_f32OfNat _ (le_refl _) (by decide)]
    exact Bits.natOfF32?_f32OfNat _ (by decide)
  · rw [Bits.sitofp32_eq_f32OfNat _ (le_refl _) (by decide)]
    exact Bits.natOfF32?_f32OfNat _ (by decide)

/-- The places, in the signed order, of a row's keys. -/
def keysOf (k : Vec Bits S4x147456 .i32) (n : Fin 4) : Fin 147456 → Nat := fun j => place (k (posAt n j))

theorem atLeast_le {N : Nat} (κ : Fin N → Nat) (x : Nat) : atLeast κ x ≤ N := by
  refine le_trans (Finset.card_le_univ _) ?_
  rw [Fintype.card_fin]

theorem ties_le {N : Nat} (κ : Fin N → Nat) (T b : Nat) : ties κ T b ≤ N := by
  refine le_trans (Finset.card_le_univ _) ?_
  rw [Fintype.card_fin]

theorem spread_row (v : IVec S4x1 32) (n : Fin 4) (j : Fin 147456) :
    broadcastTo S4x147456 v broadcasts_S4x1_S4x147456 (posAt n j) = v (rowAt n) := by
  refine broadcastTo_apply _ _ _ _ ?_
  intro a
  match a with
  | ⟨0, _⟩ => rfl
  | ⟨1, _⟩ => rfl

theorem wanted_word : (0x46666400#32 : BitVec 32) = Bits.f32OfNat 14745  := by
  rw [Bits.f32OfNat_eq _ (by decide)]; decide +kernel

/-- The number of a row's keys not below a word, as the kernel counts them. -/
theorem count_atLeast (k : Vec Bits S4x147456 .i32) (v : IVec S4x1 32) (n : Fin 4) :
    shapeCast S4x1 (multiReduction (F := Bits) .add [1] S4 (sitofp .f32 (extui 32 (cmpi .sge k (broadcastTo S4x147456 v broadcasts_S4x1_S4x147456)) natLt_1_32)) 0x00000000#32 reduces_S4x147456_S4 (.inl rfl) rfl)
      shapeCasts_S4_S4x1 (rowAt n) = Bits.f32OfNat (atLeast (keysOf k n) (place (v (rowAt n)))) := by
  refine count_row _ (fun n j => place (v (rowAt n)) ≤ keysOf k n j) ?_ n
  intro n j
  show BitVec.ofBool ((broadcastTo S4x147456 v broadcasts_S4x1_S4x147456 (posAt n j)).sle (k (posAt n j))) = _
  rw [spread_row, sle_iff_place]
  rfl

/-- The number of a row's keys above a word. -/
theorem count_above (k : Vec Bits S4x147456 .i32) (v : IVec S4x1 32) (n : Fin 4) :
    shapeCast S4x1 (multiReduction (F := Bits) .add [1] S4 (sitofp .f32 (extui 32 (cmpi .sgt k (broadcastTo S4x147456 v broadcasts_S4x1_S4x147456)) natLt_1_32)) 0x00000000#32 reduces_S4x147456_S4 (.inl rfl) rfl)
      shapeCasts_S4_S4x1 (rowAt n) = Bits.f32OfNat (atLeast (keysOf k n) (place (v (rowAt n)) + 1)) := by
  refine count_row _ (fun n j => place (v (rowAt n)) + 1 ≤ keysOf k n j) ?_ n
  intro n j
  show BitVec.ofBool ((broadcastTo S4x147456 v broadcasts_S4x1_S4x147456 (posAt n j)).slt (k (posAt n j))) = _
  rw [spread_row, slt_iff_place]
  rfl

theorem ofNat_slt (j : Fin 147456) (w : BitVec 32) (hw : w.toNat < 2147483648) :
    (BitVec.ofNat 32 j.val).slt w = decide (j.val < w.toNat) := by
  have hj : j.val < 147456 := j.isLt
  rw [BitVec.slt_eq_decide]
  apply decide_eq_decide.2
  rw [BitVec.toInt_eq_toNat_of_lt (x := w) (by omega), BitVec.toInt_eq_toNat_of_lt (x := BitVec.ofNat 32 j.val) (by rw [BitVec.toNat_ofNat]; omega),
    BitVec.toNat_ofNat, Nat.mod_eq_of_lt (by omega)]
  omega

theorem ofNat_sle (j : Fin 147456) (w : BitVec 32) (hw : w.toNat < 2147483648) :
    (BitVec.ofNat 32 j.val).sle w = decide (j.val ≤ w.toNat) := by
  have hj : j.val < 147456 := j.isLt
  rw [BitVec.sle_eq_decide]
  apply decide_eq_decide.2
  rw [BitVec.toInt_eq_toNat_of_lt (x := w) (by omega), BitVec.toInt_eq_toNat_of_lt (x := BitVec.ofNat 32 j.val) (by rw [BitVec.toNat_ofNat]; omega),
    BitVec.toNat_ofNat, Nat.mod_eq_of_lt (by omega)]
  omega

/-- The number of a row's keys equal to one word and standing before a place. -/
theorem count_ties (k : Vec Bits S4x147456 .i32) (v w : IVec S4x1 32) (n : Fin 4) (hw : ∀ n, (w (rowAt n)).toNat < 2147483648) :
    shapeCast S4x1 (multiReduction (F := Bits) .add [1] S4 (sitofp .f32 (extui 32 (andi (cmpi .eq k (broadcastTo S4x147456 v broadcasts_S4x1_S4x147456)) (cmpi .slt (iota .tc S4x147456 32 [1] iota_S4x147456_d1_w32) (broadcastTo S4x147456 w broadcasts_S4x1_S4x147456))) natLt_1_32)) 0x00000000#32 reduces_S4x147456_S4 (.inl rfl) rfl)
      shapeCasts_S4_S4x1 (rowAt n) = Bits.f32OfNat (ties (keysOf k n) (place (v (rowAt n))) (w (rowAt n)).toNat) := by
  refine count_row _ (fun n j => keysOf k n j = place (v (rowAt n)) ∧ j.val < (w (rowAt n)).toNat) ?_ n
  intro n j
  show BitVec.ofBool (k (posAt n j) == broadcastTo S4x147456 v broadcasts_S4x1_S4x147456 (posAt n j)) &&&
    BitVec.ofBool ((iota .tc S4x147456 32 [1] iota_S4x147456_d1_w32 (posAt n j)).slt (broadcastTo S4x147456 w broadcasts_S4x1_S4x147456 (posAt n j))) = _
  rw [spread_row, spread_row, iota_single_apply]
  have e : (BitVec.ofNat 32 ((posAt n j) 1).val).slt (w (rowAt n)) = decide (j.val < (w (rowAt n)).toNat) := ofNat_slt j _ (hw n)
  erw [e]
  have e2 : (k (posAt n j) == v (rowAt n)) = decide (keysOf k n j = place (v (rowAt n))) := by
    by_cases h : k (posAt n j) = v (rowAt n)
    · rw [decide_eq_true (show keysOf k n j = place (v (rowAt n)) from congrArg place h), h, beq_self_eq_true]
    · rw [decide_eq_false (show ¬ keysOf k n j = place (v (rowAt n)) from fun h' => h (place_inj h')), beq_eq_false_iff_ne.2 h]
  rw [e2]
  by_cases h1 : keysOf k n j = place (v (rowAt n)) <;> by_cases h2 : j.val < (w (rowAt n)).toNat <;> simp [h1, h2]

/-- One step of the search for the cut, in one row. -/
theorem cut_step (k : Vec Bits S4x147456 .i32) (t : Fin k0_t1_loop.trips) (acc : IVec S4x1 32) (n : Fin 4) (b : BitVec 32)
    (hb : Scalar.shli 1#32 (Scalar.subi 31#32 (Scf.iv 0#32 1#32 t)) = b) :
    k0_pay4 (F := Bits) k t acc (rowAt n) = if 14745 ≤ atLeast (keysOf k n) (place (acc (rowAt n) ^^^ b)) then acc (rowAt n) ^^^ b else acc (rowAt n) := by
  subst hb
  have hc := count_atLeast k (xori acc (broadcast S4x1 (Scalar.shli 1#32 (Scalar.subi 31#32 (Scf.iv 0#32 1#32 t))))) n
  refine (show k0_pay4 (F := Bits) k t acc (rowAt n) = if Bits.cmpf32 .oge _ 0x46666400#32 = 1#1 then acc (rowAt n) ^^^ _ else acc (rowAt n) from rfl).trans ?_
  rw [wanted_word]
  erw [hc]
  rw [Bits.cmpf32_oge_nat (lt_of_le_of_lt (atLeast_le _ _) (by decide)) (by decide)]
  refine if_congr ?_ rfl rfl
  exact (by decide : ∀ b : Bool, BitVec.ofBool b = 1#1 ↔ b = true) _ |>.trans decide_eq_true_iff

/-- One step of the search for the bound, in one row, the cut being at a place that some wanted key has. -/
theorem bound_step (k : Vec Bits S4x147456 .i32) (v : IVec S4x1 32) (t : Fin k0_t2_loop.trips) (acc : IVec S4x1 32) (n : Fin 4) (b : BitVec 32)
    (hb : Scalar.shli 1#32 (Scalar.subi 17#32 (Scf.iv 0#32 1#32 t)) = b) (hacc : ∀ n, (acc (rowAt n) + b).toNat < 2147483648)
    (hv : atLeast (keysOf k n) (place (v (rowAt n)) + 1) ≤ 14745) :
    k0_pay6 (F := Bits) k v t acc (rowAt n)
      = if ties (keysOf k n) (place (v (rowAt n))) (acc (rowAt n) + b).toNat < 14745 - atLeast (keysOf k n) (place (v (rowAt n)) + 1)
        then acc (rowAt n) + b else acc (rowAt n) := by
  subst hb
  have hc := count_ties k v (addi acc (broadcast S4x1 (Scalar.shli 1#32 (Scalar.subi 17#32 (Scf.iv 0#32 1#32 t))))) n hacc
  have hd := count_above k v n
  refine (show k0_pay6 (F := Bits) k v t acc (rowAt n) = if Bits.cmpf32 .olt _ (Bits.subf32 0x46666400#32 _) = 1#1 then acc (rowAt n) + _ else acc (rowAt n) from rfl).trans ?_
  rw [wanted_word]
  erw [hc, hd]
  rw [Bits.subf32_nat _ _ hv (by decide)]
  rw [Bits.cmpf32_olt_nat (lt_of_le_of_lt (ties_le _ _ _) (by decide)) (lt_of_le_of_lt (Nat.sub_le _ _) (by decide))]
  refine if_congr ?_ rfl rfl
  exact (by decide : ∀ b : Bool, BitVec.ofBool b = 1#1 ↔ b = true) _ |>.trans decide_eq_true_iff

theorem foldl_finRange_induct {N : Nat} {α : Type} (g : Fin N → α → α) (P : Nat → α → Prop) (a : α) (h0 : P 0 a)
    (hs : ∀ (t : Fin N) (x : α), P t.val x → P (t.val + 1) (g t x)) : P N ((List.finRange N).foldl (fun acc t => g t acc) a) := by
  suffices h : ∀ i (hi : i ≤ N), P i (((List.finRange N).take i).foldl (fun acc t => g t acc) a) by
    have := h N (le_refl _)
    rwa [List.take_of_length_le (by rw [List.length_finRange])] at this
  intro i
  induction i with
  | zero => intro _; exact h0
  | succ i ih =>
    intro hi
    rw [List.take_succ, List.foldl_append, List.getElem?_eq_getElem (by rw [List.length_finRange]; exact hi)]
    simp only [Option.toList_some, List.foldl_cons, List.foldl_nil, List.getElem_finRange]
    exact hs ⟨i, hi⟩ _ (ih (by omega))

theorem bit_of_trip1 : ∀ t : Fin k0_t1_loop.trips, Scalar.shli 1#32 (Scalar.subi 31#32 (Scf.iv 0#32 1#32 t)) = BitVec.ofNat 32 (2 ^ (32 - (t.val + 1))) := by
  decide +kernel

theorem bit_of_trip2 : ∀ t : Fin k0_t2_loop.trips, Scalar.shli 1#32 (Scalar.subi 17#32 (Scf.iv 0#32 1#32 t)) = BitVec.ofNat 32 (2 ^ (18 - (t.val + 1))) := by
  decide +kernel

theorem atLeast_all (W : Nat) {N : Nat} (κ : Fin N → Nat) (h : ∀ j, κ j < 2 ^ W) : atLeast κ (2 ^ W) = 0 := atLeast_top κ _ h

theorem start_cut (W : Nat) {N : Nat} (κ : Fin N → Nat) (h : ∀ j, κ j < 2 ^ W) (K : Nat) (hK : 0 < K) (hN : K ≤ N) :
    Cert.Search.Known W (fun x => K ≤ atLeast κ x) 0 0 :=
  Cert.Search.Known.start W _ (le_of_le_of_eq hN (atLeast_zero κ).symm)
    (fun h' => absurd (le_of_le_of_eq h' (atLeast_all W κ h)) (by omega))

/-- The cut is at the 14745th greatest place of the row. -/
theorem cut_spec (k : Vec Bits S4x147456 .i32) (n : Fin 4) :
    14745 ≤ atLeast (keysOf k n) (place (cut (F := Bits) k (rowAt n)))
      ∧ ¬ 14745 ≤ atLeast (keysOf k n) (place (cut (F := Bits) k (rowAt n)) + 1) := by
  have h : Cert.Search.Known 32 (fun x => 14745 ≤ atLeast (keysOf k n) x) k0_t1_loop.trips (place (cut (F := Bits) k (rowAt n))) := by
    unfold cut
    rw [Scf.fold_eq]
    refine foldl_finRange_induct (fun t x => k0_pay4 (F := Bits) k t x) (fun i x => Cert.Search.Known 32 (fun x => 14745 ≤ atLeast (keysOf k n) x) i (place (x (rowAt n)))) _ ?_ ?_
    · have e0 : place ((k0_pay3 : IVec S4x1 32) (rowAt n)) = 0 := (show place 2147483648#32 = 0 by decide)
      show Cert.Search.Known 32 (fun x => 14745 ≤ atLeast (keysOf k n) x) 0 (place ((k0_pay3 : IVec S4x1 32) (rowAt n)))
      rw [e0]
      exact start_cut 32 (keysOf k n) (fun j => place_lt (k (posAt n j))) 14745 (by omega) (by omega)
    · intro t x hx
      have ht : t.val < 32 := lt_of_lt_of_eq t.isLt (by decide +kernel)
      rw [cut_step k t x n _ (bit_of_trip1 t)]
      have hp := place_xor (x (rowAt n)) t.val ht hx.dvd hx.top
      rw [hp]
      split
      · rename_i hc; rw [hp]; exact hx.accept ht hc
      · rename_i hc; exact hx.reject ht hc
  rw [show k0_t1_loop.trips = 32 by decide +kernel] at h
  exact h.done

/-- The bound is at the last tie wanted. -/
theorem bound_spec (k : Vec Bits S4x147456 .i32) (n : Fin 4) :
    (bound (F := Bits) k (rowAt n)).toNat < 262144
      ∧ ties (keysOf k n) (place (cut (F := Bits) k (rowAt n))) (bound (F := Bits) k (rowAt n)).toNat < 14745 - atLeast (keysOf k n) (place (cut (F := Bits) k (rowAt n)) + 1)
      ∧ ¬ ties (keysOf k n) (place (cut (F := Bits) k (rowAt n))) ((bound (F := Bits) k (rowAt n)).toNat + 1) < 14745 - atLeast (keysOf k n) (place (cut (F := Bits) k (rowAt n)) + 1) := by
  have h : ∀ n, Cert.Search.Known 18 (fun x => ties (keysOf k n) (place (cut (F := Bits) k (rowAt n))) x < 14745 - atLeast (keysOf k n) (place (cut (F := Bits) k (rowAt n)) + 1)) k0_t2_loop.trips (bound (F := Bits) k (rowAt n)).toNat := by
    unfold bound
    rw [Scf.fold_eq]
    refine foldl_finRange_induct (fun t x => k0_pay6 (F := Bits) k (cut k) t x) (fun i x => ∀ n, Cert.Search.Known 18 (fun x => ties (keysOf k n) (place (cut (F := Bits) k (rowAt n))) x < 14745 - atLeast (keysOf k n) (place (cut (F := Bits) k (rowAt n)) + 1)) i (x (rowAt n)).toNat) _ ?_ ?_
    · intro n
      have hc := cut_spec k n
      refine Cert.Search.Known.start 18 _ ?_ ?_
      · rw [ties_zero]; omega
      · have := atLeast_split (keysOf k n) (place (cut (F := Bits) k (rowAt n))) (b := 2 ^ 18) (by decide)
        omega
    · intro t x hx n
      have ht : t.val < 18 := lt_of_lt_of_eq t.isLt (by decide +kernel)
      have hpow : 2 ^ (18 - (t.val + 1)) ≤ 2 ^ 17 := Nat.pow_le_pow_right (by decide) (by omega)
      have hb : (BitVec.ofNat 32 (2 ^ (18 - (t.val + 1)))).toNat = 2 ^ (18 - (t.val + 1)) := by
        rw [BitVec.toNat_ofNat]
        exact Nat.mod_eq_of_lt (lt_of_le_of_lt hpow (by decide))
      have hsum : ∀ n, (x (rowAt n) + BitVec.ofNat 32 (2 ^ (18 - (t.val + 1)))).toNat = (x (rowAt n)).toNat + 2 ^ (18 - (t.val + 1)) := by
        intro n
        have htop := (hx n).top
        rw [BitVec.toNat_add, hb]
        refine Nat.mod_eq_of_lt ?_
        have h18 : (2 : Nat) ^ 18 = 262144 := by decide
        have h17 : (2 : Nat) ^ 17 = 131072 := by decide
        have h32 : (2 : Nat) ^ 32 = 4294967296 := by decide
        rw [h18] at htop
        rw [h17] at hpow
        rw [h32]
        have : (x (rowAt n)).toNat ≤ 262144 := le_trans (Nat.le_add_right _ _) htop
        generalize 2 ^ (18 - (t.val + 1)) = q at *
        omega
      have hsmall : ∀ n, (x (rowAt n) + BitVec.ofNat 32 (2 ^ (18 - (t.val + 1)))).toNat < 2147483648 := by
        intro n
        rw [hsum]
        have htop := (hx n).top
        have h18 : (2 : Nat) ^ 18 = 262144 := by decide
        have h17 : (2 : Nat) ^ 17 = 131072 := by decide
        rw [h18] at htop
        rw [h17] at hpow
        have : (x (rowAt n)).toNat ≤ 262144 := le_trans (Nat.le_add_right _ _) htop
        generalize 2 ^ (18 - (t.val + 1)) = q at *
        omega
      rw [bound_step k (cut k) t x n _ (bit_of_trip2 t) hsmall (by have := (cut_spec k n).2; omega)]
      rw [hsum]
      split
      · rename_i hc; rw [hsum]; exact (hx n).accept ht hc
      · rename_i hc; exact (hx n).reject ht hc
  have h := h n
  rw [show k0_t2_loop.trips = 18 by decide +kernel] at h
  refine ⟨?_, h.done⟩
  have := h.top
  omega

/-- The kernel takes a position exactly when fewer than 14745 positions of the row come before it, by key and then place. -/
theorem takes_posAt (k : Vec Bits S4x147456 .i32) (n : Fin 4) (j : Fin 147456) :
    takes (F := Bits) k (posAt n j) = decide (before (keysOf k n) j < 14745) := by
  obtain ⟨hT, hT'⟩ := cut_spec k n
  obtain ⟨hlt, hb, hb'⟩ := bound_spec k n
  have h := taken_iff (keysOf k n) 14745 _ _ hT hT' hb hb' j
  apply Bool.eq_iff_iff.2
  rw [decide_eq_true_iff]
  refine Iff.trans ?_ h
  have e : takes (F := Bits) k (posAt n j) = ((cut (F := Bits) k (rowAt n)).slt (k (posAt n j)) || (k (posAt n j) == cut (F := Bits) k (rowAt n))
      && (BitVec.ofNat 32 j.val).sle (bound (F := Bits) k (rowAt n))) := rfl
  have e2 : (k (posAt n j) == cut (F := Bits) k (rowAt n)) = decide (keysOf k n j = place (cut (F := Bits) k (rowAt n))) := by
    by_cases h : k (posAt n j) = cut (F := Bits) k (rowAt n)
    · rw [decide_eq_true (show keysOf k n j = place (cut (F := Bits) k (rowAt n)) from congrArg place h), h, beq_self_eq_true]
    · rw [decide_eq_false (show ¬ keysOf k n j = place (cut (F := Bits) k (rowAt n)) from fun h' => h (place_inj h')), beq_eq_false_iff_ne.2 h]
  rw [e, slt_iff_place, ofNat_sle j _ (by omega), e2, Bool.or_eq_true, Bool.and_eq_true, decide_eq_true_iff, decide_eq_true_iff, decide_eq_true_iff]
  rfl

end Cert.Kernel.Value

end
-- ==== Proof.Blocks.lean ====
/- The logits of one place: the two products on the block of 8192 places that it lies in. -/
module

public import proofs.«01_k».proof.Proof.SelectionRun
public import Idealize.ShloMosaic.Lib.Pointwise.Index

@[expose] public section

set_option maxRecDepth 16384

noncomputable section

namespace Cert.Selection.Value

open Cert.Selection.Gen
open Idealize.ShloMosaic

variable {F : FTy → Type} [FloatOps F]

/-- Place `p` of channel `k` of image `n`. -/
def imAt {C : Nat} (n : Fin 4) (k : Fin C) (p : Fin 147456) : (⟨4, ![4, C, 384, 384]⟩ : Shape).Idx := fun a => match a with
  | ⟨0, _⟩ => n
  | ⟨1, _⟩ => k
  | ⟨2, _⟩ => (⟨p.val / 384, by have := p.isLt; omega⟩ : Fin 384)
  | ⟨3, _⟩ => (⟨p.val % 384, Nat.mod_lt _ (by decide)⟩ : Fin 384)

/-- The number of a place in its image. -/
def placeNo (y : S4x1x384x384.Idx) : Fin 147456 :=
  ⟨(y 2).val * 384 + (y 3).val, by have h2 : (y 2).val < 384 := (y 2).isLt; have h3 : (y 3).val < 384 := (y 3).isLt; omega⟩

theorem imAt_placeNo (y : S4x1x384x384.Idx) : imAt (y 0) (0 : Fin 1) (placeNo y) = y := by
  have h3 : (y 3).val < 384 := (y 3).isLt
  funext a
  match a with
  | ⟨0, _⟩ => rfl
  | ⟨1, _⟩ => exact Subsingleton.elim (α := Fin 1) _ _
  | ⟨2, _⟩ => apply Fin.ext; show ((y 2).val * 384 + (y 3).val) / 384 = (y 2).val; omega
  | ⟨3, _⟩ => apply Fin.ext; show ((y 2).val * 384 + (y 3).val) % 384 = (y 3).val; omega

theorem placeNo_imAt (n : Fin 4) (p : Fin 147456) : placeNo (imAt n (0 : Fin 1) p) = p := by
  apply Fin.ext
  show p.val / 384 * 384 + p.val % 384 = p.val
  omega

/-- Column `l` of block `t`, as a place. -/
def blockPlace (t : Fin 18) (l : Fin 8192) : Fin 147456 := ⟨8192 * t.val + l.val, by have := t.isLt; have := l.isLt; omega⟩

/-- The block and the column a place lies in. -/
def blockNo (p : Fin 147456) : Fin 18 := ⟨p.val / 8192, by have := p.isLt; omega⟩
def blockCol (p : Fin 147456) : Fin 8192 := ⟨p.val % 8192, Nat.mod_lt _ (by decide)⟩

/-- The input of block `t` of image `n`. -/
def xAt (x : Vec F S4x96x384x384 .f32) (n : Fin 4) (t : Fin 18) : Vec F S96x8192 .f32 := fun y => x (imAt n (y 0) (blockPlace t (y 1)))

/-- The logits of one block from its input. -/
def rowLogits (w1 : Vec F S32x96 .f32) (xs : Vec F S96x8192 .f32) (w2 : Vec F S1x32 .f32) : FVec F S1x8192 .f32 :=
  matmul dot_S1x32_S32x8192_S1x8192_1_0_0_1_n_n none w2
    (maximumf (matmul dot_S32x96_S96x8192_S32x8192_1_0_0_1_n_n none w1 xs (constant S32x8192 .f32 0x00000000#32)) (broadcast S32x8192 (Scalar.ofBits .f32 0x00000000#32)))
    (constant S1x8192 .f32 0x00000000#32)

/-- Column `l` of one row. -/
def oneCol (l : Fin 8192) : S1x8192.Idx := fun a => match a with
  | ⟨0, _⟩ => (0 : Fin 1)
  | ⟨1, _⟩ => l

/-- The input cut into its blocks. -/
def blocksOf (x : Vec F S4x96x384x384 .f32) : Vec F S72x96x8192 .f32 :=
  shapeCast S72x96x8192 (transpose S4x18x96x8192 [0, 2, 1, 3] (shapeCast S4x96x18x8192 x shapeCasts_S4x96x384x384_S4x96x18x8192) transposes_S4x96x18x8192_S4x18x96x8192_0_2_1_3) shapeCasts_S4x18x96x8192_S72x96x8192

/-- The logits as an image, from the arguments. -/
def logitsIm (x : Vec F S4x96x384x384 .f32) (w1 : Vec F S32x96 .f32) (w2 : Vec F S1x32 .f32) : Vec F S4x1x384x384 .f32 :=
  shapeCast S4x1x384x384 (logitsOf (blocksOf x) w1 w2) shapeCasts_S72x1x8192_S4x1x384x384

/-- A place of the blocks, by image, block, channel and column. -/
def inBlocks {C : Nat} (n : Fin 4) (t : Fin 18) (k : Fin C) (l : Fin 8192) : (⟨3, ![72, C, 8192]⟩ : Shape).Idx := fun a => match a with
  | ⟨0, _⟩ => (⟨n.val * 18 + t.val, by have := n.isLt; have := t.isLt; omega⟩ : Fin 72)
  | ⟨1, _⟩ => k
  | ⟨2, _⟩ => l

def ix4t (n : Fin 4) (t : Fin 18) (k : Fin 96) (l : Fin 8192) : S4x18x96x8192.Idx := fun a => match a with
  | ⟨0, _⟩ => n
  | ⟨1, _⟩ => t
  | ⟨2, _⟩ => k
  | ⟨3, _⟩ => l

def ix4k (n : Fin 4) (k : Fin 96) (t : Fin 18) (l : Fin 8192) : S4x96x18x8192.Idx := fun a => match a with
  | ⟨0, _⟩ => n
  | ⟨1, _⟩ => k
  | ⟨2, _⟩ => t
  | ⟨3, _⟩ => l

def oneBlock (k : Fin 96) (l : Fin 8192) : S1x96x8192.Idx := fun a => match a with
  | ⟨0, _⟩ => (0 : Fin 1)
  | ⟨1, _⟩ => k
  | ⟨2, _⟩ => l

theorem blocksOf_apply (x : Vec F S4x96x384x384 .f32) (n : Fin 4) (t : Fin 18) (k : Fin 96) (l : Fin 8192) :
    blocksOf x (inBlocks n t k l) = x (imAt n k (blockPlace t l)) := by
  unfold blocksOf
  rw [shapeCast_apply _ _ (inBlocks n t k l) (ix4t n t k l) (by
    rw [rowMajor_val4 _ 14155776 786432 8192 rfl rfl rfl, rowMajor_val3 _ 786432 8192 rfl rfl]
    show n.val * 14155776 + t.val * 786432 + k.val * 8192 + l.val = (n.val * 18 + t.val) * 786432 + k.val * 8192 + l.val
    omega)]
  rw [transpose_apply _ _ _ (ix4t n t k l) (ix4k n k t l) (fun b => match b with | ⟨0, _⟩ => rfl | ⟨1, _⟩ => rfl | ⟨2, _⟩ => rfl | ⟨3, _⟩ => rfl)]
  rw [shapeCast_apply _ _ (ix4k n k t l) (imAt n k (blockPlace t l)) (by
    rw [rowMajor_val4 _ 14155776 147456 384 rfl rfl rfl, rowMajor_val4 _ 14155776 147456 8192 rfl rfl rfl]
    show n.val * 14155776 + k.val * 147456 + (8192 * t.val + l.val) / 384 * 384 + (8192 * t.val + l.val) % 384 = n.val * 14155776 + k.val * 147456 + t.val * 8192 + l.val
    omega)]

theorem logitsOf_apply (x : Vec F S4x96x384x384 .f32) (w1 : Vec F S32x96 .f32) (w2 : Vec F S1x32 .f32) (n : Fin 4) (t : Fin 18) (l : Fin 8192) :
    logitsOf (blocksOf x) w1 w2 (inBlocks n t (0 : Fin 1) l) = rowLogits w1 (xAt x n t) w2 (oneCol l) := by
  unfold logitsOf k0_pay1
  refine (shapeCast_apply _ _ (inOne l) (oneCol l) (by
    rw [rowMajor_val2 _ 8192 rfl, rowMajor_val3 _ 8192 8192 rfl rfl]
    show 0 * 8192 + l.val = 0 * 8192 + 0 * 8192 + l.val
    omega)).trans ?_
  unfold rowLogits
  have hx : (shapeCast S96x8192 (fun j : S1x96x8192.Idx => blocksOf x (atBlock (inBlocks n t (0 : Fin 1) l 0) j)) shapeCasts_S1x96x8192_S96x8192 : Vec F S96x8192 .f32) = xAt x n t := by
    funext y
    rw [shapeCast_apply _ _ y (oneBlock (y 0) (y 1)) (by
      rw [rowMajor_val3 _ 786432 8192 rfl rfl, rowMajor_val2 _ 8192 rfl]
      show 0 * 786432 + (y 0).val * 8192 + (y 1).val = (y 0).val * 8192 + (y 1).val
      omega)]
    unfold xAt
    refine Eq.trans ?_ (blocksOf_apply x n t (y 0) (y 1))
    refine congrArg (blocksOf x) ?_
    funext a
    match a with
    | ⟨0, _⟩ => rfl
    | ⟨1, _⟩ => rfl
    | ⟨2, _⟩ => rfl
  exact congrArg (fun xs : Vec F S96x8192 .f32 => matmul dot_S1x32_S32x8192_S1x8192_1_0_0_1_n_n none w2
    (maximumf (matmul dot_S32x96_S96x8192_S32x8192_1_0_0_1_n_n none w1 xs (constant S32x8192 .f32 0x00000000#32)) (broadcast S32x8192 (Scalar.ofBits .f32 0x00000000#32)))
    (constant S1x8192 .f32 0x00000000#32) (oneCol l)) hx

/-- The logit of a place. -/
theorem logitsIm_apply (x : Vec F S4x96x384x384 .f32) (w1 : Vec F S32x96 .f32) (w2 : Vec F S1x32 .f32) (n : Fin 4) (p : Fin 147456) :
    logitsIm x w1 w2 (imAt n (0 : Fin 1) p) = rowLogits w1 (xAt x n (blockNo p)) w2 (oneCol (blockCol p)) := by
  unfold logitsIm
  rw [shapeCast_apply _ _ (imAt n (0 : Fin 1) p) (inBlocks n (blockNo p) (0 : Fin 1) (blockCol p)) (by
    rw [rowMajor_val3 _ 8192 8192 rfl rfl, rowMajor_val4 _ 147456 147456 384 rfl rfl rfl]
    show (n.val * 18 + p.val / 8192) * 8192 + 0 * 8192 + p.val % 8192 = n.val * 147456 + 0 * 147456 + p.val / 384 * 384 + p.val % 384
    omega)]
  exact logitsOf_apply x w1 w2 n (blockNo p) (blockCol p)

/-- The noise of one place, from what was drawn there. -/
def noiseOf (u : F .f32) : F .f32 :=
  FloatOps.subf (FloatOps.ofBits .f32 0x00000000#32) (FloatOps.log (FloatOps.addf (FloatOps.subf (FloatOps.ofBits .f32 0x00000000#32)
    (FloatOps.log (FloatOps.addf u (FloatOps.ofBits .f32 0x1E3CE508#32)))) (FloatOps.ofBits .f32 0x1E3CE508#32)))

/-- The scores, a row per image, from the arguments. -/
def scoresIm (x : Vec F S4x96x384x384 .f32) (w1 : Vec F S32x96 .f32) (w2 : Vec F S1x32 .f32) (u : Vec F S4x1x384x384 .f32) : Vec F S4x1x147456 .f32 :=
  shapeCast S4x1x147456 (addf (logitsIm x w1 w2) (k0_pay2 u)) shapeCasts_S4x1x384x384_S4x1x147456

/-- The score of a place. -/
theorem scoresIm_apply (x : Vec F S4x96x384x384 .f32) (w1 : Vec F S32x96 .f32) (w2 : Vec F S1x32 .f32) (u : Vec F S4x1x384x384 .f32) (n : Fin 4) (p : Fin 147456) :
    scoresIm x w1 w2 u (ValueIdx.ix3 n (0 : Fin 1) p) = FloatOps.addf (logitsIm x w1 w2 (imAt n (0 : Fin 1) p)) (noiseOf (u (imAt n (0 : Fin 1) p))) := by
  unfold scoresIm
  rw [shapeCast_apply _ _ (ValueIdx.ix3 n (0 : Fin 1) p) (imAt n (0 : Fin 1) p) (by
    rw [rowMajor_val4 _ 147456 147456 384 rfl rfl rfl, rowMajor_val3 _ 147456 147456 rfl rfl]
    show n.val * 147456 + 0 * 147456 + p.val / 384 * 384 + p.val % 384 = n.val * 147456 + 0 * 147456 + p.val
    omega)]
  rfl

/-- The rows of marks as an image. -/
theorem asImage_apply {α : Type} (v : S4x147456.Idx → α) (y : S4x1x384x384.Idx) :
    shapeCast S4x1x384x384 v shapeCasts_S4x147456_S4x1x384x384 y = v (ValueIdx.ix2 (y 0) (placeNo y)) := by
  have h1 : (y 1).val = 0 := congrArg Fin.val (Subsingleton.elim (α := Fin 1) (y 1) 0)
  exact shapeCast_apply _ _ _ _ (by
    rw [rowMajor_val2 _ 147456 rfl, rowMajor_val4 _ 147456 147456 384 rfl rfl rfl, h1]
    show (y 0).val * 147456 + ((y 2).val * 384 + (y 3).val) = (y 0).val * 147456 + 0 * 147456 + (y 2).val * 384 + (y 3).val
    omega)

end Cert.Selection.Value

end
-- ==== Proof.KernelBlocks.lean ====
/- The kernel's two tables, place by place: the logit of a place, and the sortable integer of its logit and noise. -/
module

public import proofs.«01_k».proof.Proof.KernelSearch
public import proofs.«01_k».proof.Proof.Blocks
public import Idealize.ShloMosaic.Lib.SortKey
public import Idealize.ShloMosaic.Lib.WordCmp

@[expose] public section

set_option maxRecDepth 16384

noncomputable section

namespace Cert.Kernel.Value

open Cert.Kernel.Gen
open Idealize.ShloMosaic Idealize.ShloMosaic.TcCoe Idealize.ShloMosaic.Tactic
open Idealize.ShloMosaic.VecWindow (window put)
open Cert.Selection.Value (noiseOf imAt placeNo blockPlace blockNo blockCol xAt rowLogits oneCol oneBlock)

section
variable {F : FTy → Type} [BitOps F]

theorem transform0_eq : ∀ t : Fin cfg0.N, t.val < 18 → cc0_transform_0 (grid0.coords t) = ![0, 0, t.val] := by decide +kernel
theorem transform3_eq : ∀ t : Fin cfg0.N, t.val < 18 → cc0_transform_3 (grid0.coords t) = ![0, t.val] := by decide +kernel

variable (m : (ℓ : Loc nD τ sig) → Buf (Elt F) ℓ)

theorem V_v0 (c : Dev nD) : V m c main_v0 = shapeCast S4x96x147456 (m ((c.tc : Thread nD τ).loc main_arg0)) shapeCasts_S4x96x384x384_S4x96x147456 := by
  show StableHlo.after hostOps0 _ (Proc.devRef .tc main_v0) = _
  after_results
  rfl

theorem V_v1 (c : Dev nD) : V m c main_v1 = shapeCast S4x147456 (m ((c.tc : Thread nD τ).loc main_arg4)) shapeCasts_S4x1x384x384_S4x147456 := by
  show StableHlo.after hostOps0 _ (Proc.devRef .tc main_v1) = _
  after_results
  rfl

/-- A place of an input block. -/
def inX (n : Fin 4) (k : Fin 96) (l : Fin 8192) : S4x96x8192.Idx := fun a => match a with
  | ⟨0, _⟩ => n
  | ⟨1, _⟩ => k
  | ⟨2, _⟩ => l

/-- A place of a block of columns. -/
def inCol (n : Fin 4) (l : Fin 8192) : S4x8192.Idx := fun a => match a with
  | ⟨0, _⟩ => n
  | ⟨1, _⟩ => l

def rowsAt (n : Fin 4) (k : Fin 96) (p : Fin 147456) : S4x96x147456.Idx := fun a => match a with
  | ⟨0, _⟩ => n
  | ⟨1, _⟩ => k
  | ⟨2, _⟩ => p

theorem blk_0 (c : Dev nD) (t : Fin cfg0.N) (s : Fin 18) (ht : t.val = s.val) (n : Fin 4) (k : Fin 96) (l : Fin 8192) :
    iblk m c 0 t (inX n k l) = m ((c.tc : Thread nD τ).loc main_arg0) (imAt n k (blockPlace s l)) := by
  have h1 : iblk m c 0 t (inX n k l) = V m c main_v0 (rowsAt n k (blockPlace s l)) := by
    unfold iblk
    refine congrArg (V m c main_v0) ?_
    have e := transform0_eq t (by have := s.isLt; omega)
    have e0 : cc0_transform_0 (grid0.coords t) 0 = 0 := congrFun e 0
    have e1 : cc0_transform_0 (grid0.coords t) 1 = 0 := congrFun e 1
    have e2 : cc0_transform_0 (grid0.coords t) 2 = t.val := congrFun e 2
    funext a
    apply Fin.ext
    match a with
    | ⟨0, _⟩ => show cc0_transform_0 (grid0.coords t) 0 * 4 + 1 * n.val = n.val; omega
    | ⟨1, _⟩ => show cc0_transform_0 (grid0.coords t) 1 * 96 + 1 * k.val = k.val; omega
    | ⟨2, _⟩ => show cc0_transform_0 (grid0.coords t) 2 * 8192 + 1 * l.val = 8192 * s.val + l.val; omega
  rw [h1, V_v0]
  exact shapeCast_apply (s := S4x96x384x384) (t := S4x96x147456) _ _ _ _ (by
    rw [rowMajor_val4 _ 14155776 147456 384 rfl rfl rfl, rowMajor_val3 _ 14155776 147456 rfl rfl]
    show n.val * 14155776 + k.val * 147456 + (8192 * s.val + l.val) / 384 * 384 + (8192 * s.val + l.val) % 384 = n.val * 14155776 + k.val * 147456 + (8192 * s.val + l.val)
    omega)

theorem blk_1 (c : Dev nD) (t : Fin cfg0.N) : iblk m c 1 t = m ((c.tc : Thread nD τ).loc main_arg1) := by
  rw [← V_main_arg1 m c]
  funext y
  unfold iblk
  refine congrArg (V m c main_arg1) ?_
  funext a
  apply Fin.ext
  match a with
  | ⟨0, _⟩ => show 0 * 32 + 1 * (y 0).val = (y 0).val; omega
  | ⟨1, _⟩ => show 0 * 96 + 1 * (y 1).val = (y 1).val; omega

theorem blk_2 (c : Dev nD) (t : Fin cfg0.N) : iblk m c 2 t = m ((c.tc : Thread nD τ).loc main_arg2) := by
  rw [← V_main_arg2 m c]
  funext y
  unfold iblk
  refine congrArg (V m c main_arg2) ?_
  funext a
  apply Fin.ext
  match a with
  | ⟨0, _⟩ => show 0 * 1 + 1 * (y 0).val = (y 0).val; omega
  | ⟨1, _⟩ => show 0 * 32 + 1 * (y 1).val = (y 1).val; omega

theorem blk_3 (c : Dev nD) (t : Fin cfg0.N) (s : Fin 18) (ht : t.val = s.val) (n : Fin 4) (l : Fin 8192) :
    iblk m c 3 t (inCol n l) = m ((c.tc : Thread nD τ).loc main_arg4) (imAt n (0 : Fin 1) (blockPlace s l)) := by
  have h1 : iblk m c 3 t (inCol n l) = V m c main_v1 (posAt n (blockPlace s l)) := by
    unfold iblk
    refine congrArg (V m c main_v1) ?_
    have e := transform3_eq t (by have := s.isLt; omega)
    have e0 : cc0_transform_3 (grid0.coords t) 0 = 0 := congrFun e 0
    have e1 : cc0_transform_3 (grid0.coords t) 1 = t.val := congrFun e 1
    funext a
    apply Fin.ext
    match a with
    | ⟨0, _⟩ => show cc0_transform_3 (grid0.coords t) 0 * 4 + 1 * n.val = n.val; omega
    | ⟨1, _⟩ => show cc0_transform_3 (grid0.coords t) 1 * 8192 + 1 * l.val = 8192 * s.val + l.val; omega
  rw [h1, V_v1]
  exact shapeCast_apply (s := S4x1x384x384) (t := S4x147456) _ _ _ _ (by
    rw [rowMajor_val4 _ 147456 147456 384 rfl rfl rfl, rowMajor_val2 _ 147456 rfl]
    show n.val * 147456 + 0 * 147456 + (8192 * s.val + l.val) / 384 * 384 + (8192 * s.val + l.val) % 384 = n.val * 147456 + (8192 * s.val + l.val)
    omega)

/-- Image `n`'s part of an input block. -/
def part (x : Vec F S4x96x8192 .f32) (n : Fin 4) : Vec F S96x8192 .f32 := fun y => x (inX n (y 0) (y 1))

theorem window_part (x : Vec F S4x96x8192 .f32) (n : Fin 4) (off : Fin 3 → Nat) (inb : ∀ a, off a + S1x96x8192.size a ≤ S4x96x8192.size a)
    (h0 : off 0 = n.val) (h1 : off 1 = 0) (h2 : off 2 = 0) :
    (shapeCast S96x8192 (window x off S1x96x8192.size inb) shapeCasts_S1x96x8192_S96x8192 : Vec F S96x8192 .f32) = part x n := by
  funext y
  refine (shapeCast_apply (s := S1x96x8192) (t := S96x8192) (window x off S1x96x8192.size inb) shapeCasts_S1x96x8192_S96x8192 y (oneBlock (y 0) (y 1)) (by
      rw [rowMajor_val3 _ 786432 8192 rfl rfl, rowMajor_val2 _ 8192 rfl]
      show 0 * 786432 + (y 0).val * 8192 + (y 1).val = (y 0).val * 8192 + (y 1).val
      omega)).trans ?_
  unfold window part
  refine congrArg x ?_
  funext a
  apply Fin.ext
  match a with
  | ⟨0, _⟩ => show off 0 + 1 * 0 = n.val; omega
  | ⟨1, _⟩ => show off 1 + 1 * (y 0).val = (y 0).val; omega
  | ⟨2, _⟩ => show off 2 + 1 * (y 1).val = (y 1).val; omega

/-- A block's logits, row by row. -/
theorem blkLogits_apply (x : Vec F S4x96x8192 .f32) (w1 : Vec F S32x96 .f32) (w2 : Vec F S1x32 .f32) (n : Fin 4) (l : Fin 8192) :
    blkLogits x w1 w2 (inCol n l) = rowLogits w1 (part x n) w2 (oneCol l) := by
  have e : blkLogits x w1 w2 = concatenate S4x8192 0 (List.ofFn fun n : Fin 4 => (⟨S1x8192, rowLogits w1 (part x n) w2⟩ : (s : Shape) × (s.Idx → F .f32)))
      concatenates_S1x8192_S1x8192_S1x8192_S1x8192_S4x8192_d0 := by
    unfold blkLogits k0_pay11
    rw [window_part x 0 _ _ rfl rfl rfl, window_part x 1 _ _ rfl rfl rfl, window_part x 2 _ _ rfl rfl rfl, window_part x 3 _ _ rfl rfl rfl]
    rfl
  rw [e]
  exact concatenate_ofFn_unit_apply (t := S4x8192) (s₁ := S1x8192) (0 : Fin 2) (fun n : Fin 4 => rowLogits w1 (part x n) w2) _ rfl rfl (inCol n l) n rfl (oneCol l)
    (fun b hb => match b, hb with | ⟨0, _⟩, hb => absurd rfl hb | ⟨1, _⟩, _ => rfl)

theorem part_blk (c : Dev nD) (t : Fin cfg0.N) (s : Fin 18) (ht : t.val = s.val) (n : Fin 4) :
    part (iblk m c 0 t) n = xAt (m ((c.tc : Thread nD τ).loc main_arg0)) n s := by
  funext y
  exact blk_0 m c t s ht n (y 0) (y 1)

theorem inBlock_posAt (n : Fin 4) (p : Fin 147456) : inBlock (posAt n p) = inCol n (blockCol p) := by
  funext a
  match a with
  | ⟨0, _⟩ => rfl
  | ⟨1, _⟩ => rfl

theorem blkTable_apply (c : Dev nD) (n : Fin 4) (p : Fin 147456) :
    blkLogits (iblk m c 0 (colPoint p)) (iblk m c 1 (colPoint p)) (iblk m c 2 (colPoint p)) (inCol n (blockCol p))
      = rowLogits (m ((c.tc : Thread nD τ).loc main_arg1)) (xAt (m ((c.tc : Thread nD τ).loc main_arg0)) n (blockNo p)) (m ((c.tc : Thread nD τ).loc main_arg2)) (oneCol (blockCol p)) := by
  rw [blkLogits_apply, part_blk m c (colPoint p) (blockNo p) rfl n, blk_1, blk_2]

/-- The table of logits, place by place. -/
theorem lgTab_apply (c : Dev nD) (n : Fin 4) (p : Fin 147456) : lgTab m c (posAt n p)
      = rowLogits (m ((c.tc : Thread nD τ).loc main_arg1)) (xAt (m ((c.tc : Thread nD τ).loc main_arg0)) n (blockNo p)) (m ((c.tc : Thread nD τ).loc main_arg2)) (oneCol (blockCol p)) := by
  unfold lgTab
  rw [inBlock_posAt]
  show lgBlock m c (colPoint p) (inCol n (blockCol p)) = _
  unfold lgBlock k0_pay2
  rw [shapeCast_self]
  exact blkTable_apply m c n p

theorem blkKeys_apply (x : Vec F S4x96x8192 .f32) (w1 : Vec F S32x96 .f32) (w2 : Vec F S1x32 .f32) (u : Vec F S4x8192 .f32) (y : S4x8192.Idx) :
    blkKeys x w1 w2 u y = (fun z : BitVec 32 => Scalar.select (IntOp.cmpi .slt z 0#32) (IntOp.xori z 2147483647#32) z)
      (BitOps.toBits (FloatOps.addf (blkLogits x w1 w2 y) (noiseOf (u y)))) := by
  unfold blkKeys k0_pay1 k0_pay12
  dsimp only
  rw [shapeCast_self, shapeCast_self]
  rfl

end

theorem sortable_select (z : BitVec 32) : Scalar.select (IntOp.cmpi .slt z 0#32) (IntOp.xori z 2147483647#32) z = sortableKey z := by
  rw [WordCmp.cmpi_slt_zero, WordCmp.select_decide]
  by_cases h : z.msb = true
  · rw [sortableKey_of_msb_true z h, if_pos (by have := BitVec.msb_eq_true_iff_two_mul_ge.mp h; omega)]
    rfl
  · have h' : z.msb = false := by simpa using h
    rw [sortableKey_of_msb_false z h', if_neg (by have := BitVec.msb_eq_false_iff_two_mul_lt.mp h'; omega)]

/-- The table of keys at bit patterns, place by place. -/
theorem keyTab_apply (m : (ℓ : Loc nD τ sig) → Buf (Elt Bits) ℓ) (c : Dev nD) (n : Fin 4) (p : Fin 147456) : keyTab m c (posAt n p)
      = sortableKey (FloatOps.addf (F := Bits) (φ := .f32)
          (rowLogits (F := Bits) (m ((c.tc : Thread nD τ).loc main_arg1)) (xAt (m ((c.tc : Thread nD τ).loc main_arg0)) n (blockNo p)) (m ((c.tc : Thread nD τ).loc main_arg2)) (oneCol (blockCol p)))
          (noiseOf (F := Bits) (m ((c.tc : Thread nD τ).loc main_arg4) (imAt n (0 : Fin 1) p)))) := by
  unfold keyTab keyBlock
  rw [inBlock_posAt]
  refine (blkKeys_apply (F := Bits) _ _ _ _ _).trans ?_
  refine (sortable_select _).trans ?_
  have e4 : iblk m c 3 (colPoint p) (inCol n (blockCol p)) = m ((c.tc : Thread nD τ).loc main_arg4) (imAt n (0 : Fin 1) p) := by
    rw [blk_3 m c (colPoint p) (blockNo p) rfl n (blockCol p)]
    congr 2
    exact Fin.ext (by show 8192 * (p.val / 8192) + p.val % 8192 = p.val; omega)
  show sortableKey (FloatOps.addf (F := Bits) (φ := .f32) (blkLogits (iblk m c 0 (colPoint p)) (iblk m c 1 (colPoint p)) (iblk m c 2 (colPoint p)) (inCol n (blockCol p)))
    (noiseOf (F := Bits) (iblk m c 3 (colPoint p) (inCol n (blockCol p))))) = _
  rw [e4, blkTable_apply]

end Cert.Kernel.Value

end
-- ==== Proof.Marks.lean ====
/- What the scatter of ones leaves at a place: a one exactly where the place is among the first of its row's order. -/
module

public import proofs.«01_k».proof.Proof.SelectionRun
public import Idealize.ShloMosaic.Lib.ScatterToDense.RefScatter
public import Idealize.ShloMosaic.Lib.WordCmp

@[expose] public section

set_option maxRecDepth 16384

noncomputable section

namespace Cert.Selection.Value

open Cert.Selection.Gen
open Idealize.ShloMosaic Idealize.ShloMosaic.ValueIdx Idealize.ShloMosaic.Routing Idealize.ShloMosaic.ScatterToDense

variable {F : FTy → Type} [FloatOps F]

/-- The index words of a top-k along the last of three axes are the positions in sorted order. -/
theorem topK_word {α : Type} {A C K : Nat} (gt : α → α → BitVec 1) (z : (⟨3, ![A, 1, C]⟩ : Shape).Idx → α)
    (h : (⟨3, ![A, 1, C]⟩ : Shape).Slices (fun _ => 0) ⟨3, ![A, 1, K]⟩) (n : Fin A) (t : Fin K) (ht : t.val < C) :
    (Host.topK ⟨3, ![A, 1, K]⟩ 2 gt z h).2 (ValueIdx.ix3 n (0 : Fin 1) t)
      = BitVec.ofNat 32 (sortedFrom (fun k k' : Fin C => gt (z (ValueIdx.ix3 n (0 : Fin 1) k)) (z (ValueIdx.ix3 n (0 : Fin 1) k')) == 1#1) ⟨t.val, ht⟩).val := by
  have hal : ∀ (j : (⟨3, ![A, 1, C]⟩ : Shape).Idx), j 0 = n → ∀ k : Fin C, j.along (2 : Fin 3) k = ValueIdx.ix3 n (0 : Fin 1) k := fun j hj k => by
    unfold Shape.Idx.along
    funext a
    match a with
    | ⟨0, _⟩ => exact (Function.update_of_ne (by intro h; exact absurd (congrArg Fin.val h) (show ¬ (0 : Nat) = 2 by decide)) _ _).trans hj
    | ⟨1, _⟩ => exact (Function.update_of_ne (by intro h; exact absurd (congrArg Fin.val h) (show ¬ (1 : Nat) = 2 by decide)) _ _).trans (Subsingleton.elim (α := Fin 1) _ _)
    | ⟨2, _⟩ => exact Function.update_self ..
  unfold Host.topK Host.sort2 extractStridedSlice
  simp only [show (2 : Nat) < 3 from by decide, ↓reduceDIte]
  unfold iotaInDim
  rw [Shape.Idx.along, Function.update_self]
  refine congrArg (fun x : Fin C => BitVec.ofNat 32 x.val) ?_
  refine congrArg₂ (fun (B : Fin C → Fin C → Bool) (k : Fin C) => sortedFrom B k) ?_ (Fin.ext (Nat.zero_add _))
  funext k k'
  exact congrArg₂ (fun a b => gt (z a) (z b) == 1#1) (hal _ (Fin.ext (Nat.zero_add _)) k) (hal _ (Fin.ext (Nat.zero_add _)) k')

/-- Whether the score at place `k` of row `n` comes before the one at `k'`. -/
def beats (z : Vec F S4x1x147456 .f32) (n : Fin 4) (k k' : Fin 147456) : Bool :=
  FloatOps.cmpfTotal (F := F) (φ := .f32) .gt (z (ValueIdx.ix3 n (0 : Fin 1) k)) (z (ValueIdx.ix3 n (0 : Fin 1) k')) == 1#1

theorem best_apply (z : Vec F S4x1x147456 .f32) (n : Fin 4) (t : Fin 14745) (ht : t.val < 147456) :
    best z (ValueIdx.ix2 n t) = BitVec.ofNat 32 (sortedFrom (beats z n) ⟨t.val, ht⟩).val := by
  unfold best
  rw [shapeCast_apply _ _ (ValueIdx.ix2 n t) (ValueIdx.ix3 n (0 : Fin 1) t) (by
    rw [rowMajor_val3 _ 14745 14745 rfl rfl, rowMajor_val2 _ 14745 rfl]
    show n.val * 14745 + 0 * 14745 + t.val = n.val * 14745 + t.val
    omega)]
  exact topK_word _ z _ n t ht

/-- A word that is not negative is left by the wrap. -/
theorem wrap_small (w d : BitVec 32) (h : w.toNat < 2147483648) : Scalar.select (IntOp.cmpi .slt w 0#32) (IntOp.addi w d) w = w := by
  rw [WordCmp.cmpi_slt_zero, WordCmp.select_decide, if_neg (by omega)]

theorem rowWords_apply (n : Fin 4) : rowWords (ValueIdx.ix2 n (0 : Fin 1)) = BitVec.ofNat 32 n.val := by
  unfold rowWords
  rw [broadcastInDim_apply _ _ _ _ (fun a => match a with | ⟨0, _⟩ => n) (fun a => match a with | ⟨0, _⟩ => rfl)]
  rfl

theorem pairs_row (b : IVec S4x14745 32) (n : Fin 4) (t : Fin 14745) : pairs b (ValueIdx.ix3 n t (0 : Fin 2)) = BitVec.ofNat 32 n.val := by
  unfold pairs
  refine (concatenate_pair_apply_left (t := S4x14745x2) (s₁ := S4x14745x1) (s₂ := S4x14745x1) _ _ _ _ _ rfl (ValueIdx.ix3 n t (0 : Fin 1)) (fun a => match a with | ⟨0, _⟩ => rfl | ⟨1, _⟩ => rfl | ⟨2, _⟩ => rfl)).trans ?_
  rw [broadcastInDim_apply _ _ _ _ (ValueIdx.ix2 n t) (fun a => match a with | ⟨0, _⟩ => rfl | ⟨1, _⟩ => rfl),
    broadcastInDim_apply _ _ _ _ (ValueIdx.ix2 n (0 : Fin 1)) (fun a => match a with | ⟨0, _⟩ => rfl | ⟨1, _⟩ => rfl)]
  have hn := n.isLt
  show Scalar.select (IntOp.cmpi .slt (rowWords (ValueIdx.ix2 n (0 : Fin 1))) 0#32) (IntOp.addi (rowWords (ValueIdx.ix2 n (0 : Fin 1))) 4#32) (rowWords (ValueIdx.ix2 n (0 : Fin 1))) = _
  rw [rowWords_apply, wrap_small _ _ (by rw [BitVec.toNat_ofNat]; omega)]

theorem pairs_place (b : IVec S4x14745 32) (n : Fin 4) (t : Fin 14745) (h : (b (ValueIdx.ix2 n t)).toNat < 2147483648) :
    pairs b (ValueIdx.ix3 n t (1 : Fin 2)) = b (ValueIdx.ix2 n t) := by
  unfold pairs
  refine (concatenate_pair_apply_right (t := S4x14745x2) (s₁ := S4x14745x1) (s₂ := S4x14745x1) _ _ _ _ _ rfl rfl (ValueIdx.ix3 n t (0 : Fin 1))
      (fun a ha => match a, ha with | ⟨0, _⟩, _ => rfl | ⟨1, _⟩, _ => rfl | ⟨2, _⟩, ha => absurd rfl ha) rfl).trans ?_
  rw [broadcastInDim_apply _ _ _ _ (ValueIdx.ix2 n t) (fun a => match a with | ⟨0, _⟩ => rfl | ⟨1, _⟩ => rfl)]
  show Scalar.select (IntOp.cmpi .slt (b (ValueIdx.ix2 n t)) 0#32) (IntOp.addi (b (ValueIdx.ix2 n t)) 147456#32) (b (ValueIdx.ix2 n t)) = _
  rw [wrap_small _ _ h]

open Classical in
/-- What the scatter leaves at place `j` of row `n`. -/
theorem marked_apply (z : Vec F S4x1x147456 .f32) (n : Fin 4) (j : Fin 147456) :
    marked z (ValueIdx.ix2 n j) = if ∃ i : Fin 147456, i.val < 14745 ∧ sortedFrom (beats z n) i = j
      then FloatOps.ofBits (F := F) .f32 0x3F800000#32 else FloatOps.ofBits (F := F) .f32 0x00000000#32 := by
  have hK : ∀ t : Fin 14745, t.val < 147456 := fun t => by have := t.isLt; omega
  have hb : ∀ (i : Fin 4) (t : Fin 14745), (best z (ValueIdx.ix2 i t)).toNat = (sortedFrom (beats z i) ⟨t.val, hK t⟩).val := fun i t => by
    rw [best_apply z i t (hK t), BitVec.toNat_ofNat]
    have := (sortedFrom (beats z i) ⟨t.val, hK t⟩).isLt
    omega
  have hd := scatter_eq_dense (T := 4) (C := 147456) (K := 14745) (by decide) scatter_S4x147456_S4x14745x2_S4x14745_n_01_01_2 rfl rfl rfl (by decide) (by decide)
    (broadcastInDim S4x147456 ![] bcast_S_S4x147456 (constant S_ .f32 0x00000000#32) : Vec F S4x147456 .f32) (pairs (best z))
    (broadcastInDim S4x14745 ![] bcast_S_S4x14745 (constant S_ .f32 0x3F800000#32) : Vec F S4x14745 .f32) (best z)
    (fun _ => FloatOps.ofBits (F := F) .f32 0x3F800000#32) (FloatOps.ofBits (F := F) .f32 0x00000000#32) (fun _ => rfl)
    (fun i k => pairs_row _ i k)
    (fun i k c hc => by
      have := (sortedFrom (beats z i) ⟨k.val, hK k⟩).isLt
      rw [pairs_place _ i k (by rw [hb]; omega)])
    (fun _ _ => rfl) (ValueIdx.ix2 n j)
  unfold marked
  rw [hd]
  rcases dense_lastWinsU (T := 4) (C := 147456) (K := 14745) (by decide) (best z)
    (fun _ => FloatOps.ofBits (F := F) .f32 0x3F800000#32) (FloatOps.ofBits (F := F) .f32 0x00000000#32) n j with ⟨t, h1, _, h2⟩ | ⟨h1, h2⟩
  · rw [h2, if_pos ⟨⟨t.val, hK t⟩, t.isLt, Fin.ext ((hb n t).symm.trans h1.symm)⟩]
  · rw [h2, if_neg]
    rintro ⟨i, hi, he⟩
    exact h1 ⟨i.val, hi⟩ (by show j.val = BitVec.toNat _; rw [hb n ⟨i.val, hi⟩, ← he])

end Cert.Selection.Value

end
-- ==== Proof.Agree.lean ====
/- The fused kernel and the plain selection leave the same bits. -/
module

public import proofs.«01_k».proof.Proof.KernelBlocks
public import proofs.«01_k».proof.Proof.Marks

@[expose] public section

set_option maxRecDepth 16384

noncomputable section

namespace Cert.Agree

open Idealize.ShloMosaic Idealize.ShloMosaic.TcCoe
open Cert.Selection.Value (imAt placeNo imAt_placeNo logitsIm logitsIm_apply scoresIm scoresIm_apply noiseOf asImage_apply marked marked_apply beats)
open Cert.Kernel.Value (posAt keysOf keyTab lgTab takes_posAt keyTab_apply lgTab_apply)
open Cert.Search Cert.Rank

/-- At bit patterns a score comes before another when its sortable integer is greater. -/
theorem beats_bits (z : Vec Bits Cert.Selection.S4x1x147456 .f32) (n : Fin 4) (a b : Fin 147456) :
    beats z n a b = decide (place (sortableKey (z (ValueIdx.ix3 n (0 : Fin 1) b))) < place (sortableKey (z (ValueIdx.ix3 n (0 : Fin 1) a)))) := by
  unfold beats
  rw [cmpfTotal_f32_eq_cmpi_sortableKey, ← slt_iff_place]
  generalize sortableKey (z (ValueIdx.ix3 n (0 : Fin 1) a)) = p
  generalize sortableKey (z (ValueIdx.ix3 n (0 : Fin 1) b)) = q
  show (BitVec.ofBool (q.slt p) == 1#1) = q.slt p
  cases q.slt p <;> rfl

theorem one_bits : FloatOps.sitofp (F := Bits) .f32 (1#32) = FloatOps.ofBits (F := Bits) .f32 0x3F800000#32 := by
  show Bits.sitofp32 (1#32) = _
  rw [Bits.sitofp32_eq_f32OfNat _ (by decide) (by decide), Bits.f32OfNat_eq _ (by decide)]
  decide +kernel
theorem zero_bits : FloatOps.sitofp (F := Bits) .f32 (0#32) = FloatOps.ofBits (F := Bits) .f32 0x00000000#32 := by
  show Bits.sitofp32 (0#32) = _
  rw [Bits.sitofp32_eq_f32OfNat _ (by decide) (by decide), Bits.f32OfNat_eq _ (by decide)]
  decide +kernel

variable (m : (ℓ : Loc Cert.Kernel.nD Cert.Kernel.τ Cert.Kernel.sig) → Buf (Elt Bits) ℓ) (c : Dev Cert.Kernel.nD)

/-- The arguments' logits and scores. -/
def argLogits : Vec Bits Cert.Selection.S4x1x384x384 .f32 :=
  logitsIm (F := Bits) (m ((c.tc : Thread Cert.Kernel.nD Cert.Kernel.τ).loc Cert.Kernel.main_arg0)) (m ((c.tc : Thread Cert.Kernel.nD Cert.Kernel.τ).loc Cert.Kernel.main_arg1))
    (m ((c.tc : Thread Cert.Kernel.nD Cert.Kernel.τ).loc Cert.Kernel.main_arg2))

def argScores : Vec Bits Cert.Selection.S4x1x147456 .f32 :=
  scoresIm (F := Bits) (m ((c.tc : Thread Cert.Kernel.nD Cert.Kernel.τ).loc Cert.Kernel.main_arg0)) (m ((c.tc : Thread Cert.Kernel.nD Cert.Kernel.τ).loc Cert.Kernel.main_arg1))
    (m ((c.tc : Thread Cert.Kernel.nD Cert.Kernel.τ).loc Cert.Kernel.main_arg2)) (m ((c.tc : Thread Cert.Kernel.nD Cert.Kernel.τ).loc Cert.Kernel.main_arg4))

theorem lg_place (n : Fin 4) (p : Fin 147456) : lgTab m c (posAt n p) = argLogits m c (imAt n (0 : Fin 1) p) :=
  (lgTab_apply m c n p).trans (logitsIm_apply (F := Bits) _ _ _ n p).symm

theorem key_place (n : Fin 4) (p : Fin 147456) : keyTab m c (posAt n p) = sortableKey (argScores m c (ValueIdx.ix3 n (0 : Fin 1) p)) := by
  refine (keyTab_apply m c n p).trans (congrArg sortableKey ?_)
  unfold argScores
  rw [scoresIm_apply, logitsIm_apply]

/-- The two masks, place by place. -/
theorem mask_place (n : Fin 4) (p : Fin 147456) : Cert.Kernel.Value.allMask m c (posAt n p) = marked (argScores m c) (ValueIdx.ix2 n p) := by
  rw [marked_apply, Cert.Kernel.Value.allMask_apply, takes_posAt]
  have hs := sorted_iff (keysOf (keyTab m c) n) (beats (argScores m c) n) (fun a b => by
    rw [beats_bits, ← key_place, ← key_place]
    rfl) 14745 p
  by_cases h : before (keysOf (keyTab m c) n) p < 14745
  · rw [if_pos (decide_eq_true h), if_pos (hs.mpr h), one_bits]
  · rw [if_neg (by simpa using h), if_neg (fun h' => h (hs.mp h')), zero_bits]

theorem mask_agrees (y : Cert.Kernel.S4x1x384x384.Idx) :
    shapeCast Cert.Kernel.S4x1x384x384 (Cert.Kernel.Value.allMask m c) Cert.Kernel.Gen.shapeCasts_S4x147456_S4x1x384x384 y
      = shapeCast Cert.Selection.S4x1x384x384 (marked (argScores m c)) Cert.Selection.Gen.shapeCasts_S4x147456_S4x1x384x384 y :=
  (asImage_apply _ y).trans ((mask_place m c (y 0) (placeNo y)).trans (asImage_apply _ y).symm)

theorem masked_agrees (y : Cert.Kernel.S4x1x384x384.Idx) :
    shapeCast Cert.Kernel.S4x1x384x384 (Cert.Kernel.Value.allLogits m c) Cert.Kernel.Gen.shapeCasts_S4x147456_S4x1x384x384 y
      = mulf (argLogits m c) (shapeCast Cert.Selection.S4x1x384x384 (marked (argScores m c)) Cert.Selection.Gen.shapeCasts_S4x147456_S4x1x384x384) y := by
  refine (asImage_apply _ y).trans ?_
  show Cert.Kernel.Value.allLogits m c (posAt (y 0) (placeNo y)) = FloatOps.mulf (argLogits m c y) (shapeCast Cert.Selection.S4x1x384x384 (marked (argScores m c)) Cert.Selection.Gen.shapeCasts_S4x147456_S4x1x384x384 y)
  refine (Cert.Kernel.Value.allLogits_apply m c _).trans ?_
  have hm := mask_place m c (y 0) (placeNo y)
  have hl := lg_place m c (y 0) (placeNo y)
  rw [imAt_placeNo] at hl
  rw [asImage_apply]
  exact congrArg₂ (FloatOps.mulf (F := Bits) (φ := .f32)) hl hm

end Cert.Agree

end
-- ==== Proof.BitExact.lean ====
/- Both programs' runs, and that they leave the same bits. -/
module

public import proofs.«01_k».proof.Defs
public import proofs.«01_k».proof.Proof.Agree
public import proofs.«01_k».proof.Proof.KernelFrame
public import Idealize.ShloMosaic.Lib.Claim

@[expose] public section

noncomputable section

namespace Cert.Agree

open Idealize.ShloMosaic Idealize.ShloMosaic.TcCoe Idealize.SL.Sem

/-- The fused kernel's results are the plain selection's, bit for bit. -/
theorem same_bits : Cert.bitexact_Kernel_Selection (hKernel := Cert.Kernel.Gen.facts) (hSelection := Cert.Selection.Gen.facts) := fun m g m' g' _ hargs =>
  ⟨fun c => shapeCast Cert.Kernel.S4x1x384x384 (Cert.Kernel.Value.allLogits m c) Cert.Kernel.Gen.shapeCasts_S4x147456_S4x1x384x384,
   fun c => shapeCast Cert.Kernel.S4x1x384x384 (Cert.Kernel.Value.allMask m c) Cert.Kernel.Gen.shapeCasts_S4x147456_S4x1x384x384,
   (θ_run Cert.Kernel.defs _ _).mono (fun r h c => ⟨(h.1 c).1, (h.1 c).2, h.2.1 c⟩)
     (θ_run_and (Cert.Kernel.Value.run_value m g) (Cert.Kernel.Value.frame m g)),
   (θ_run Cert.Selection.defs _ _).mono (fun r h c => by
     have hs : Cert.Selection.Value.scores m' c = argScores m c := by
       show Cert.Selection.Value.scoresIm _ _ _ _ = Cert.Selection.Value.scoresIm _ _ _ _
       rw [(hargs c).1, (hargs c).2.1, (hargs c).2.2.1, (hargs c).2.2.2.2]
     have hl : Cert.Selection.Value.logits4 m' c = argLogits m c := by
       show Cert.Selection.Value.logitsIm _ _ _ = Cert.Selection.Value.logitsIm _ _ _
       rw [(hargs c).1, (hargs c).2.1, (hargs c).2.2.1]
     have hm : Cert.Selection.Value.mask4 m' c = shapeCast Cert.Selection.S4x1x384x384 (Cert.Selection.Value.marked (argScores m c)) Cert.Selection.Gen.shapeCasts_S4x147456_S4x1x384x384 := by
       show shapeCast _ (Cert.Selection.Value.marked (Cert.Selection.Value.scores m' c)) _ = _
       rw [hs]
     refine ⟨(h.1 c).1.trans ?_, (h.1 c).2.trans ?_, h.2.1 c⟩
     · rw [hl, hm]
       exact funext fun y => (masked_agrees m c y).symm
     · rw [hm]
       exact funext fun y => (mask_agrees m c y).symm)
     (θ_run_and (Cert.Selection.Value.run_value m' g') (Cert.Selection.Gen.frame m' g'))⟩

end Cert.Agree

end
-- ==== Proof.PreFacts.lean ====
/- What the precondition says of each element. -/
module

public import proofs.«01_k».proof.Defs
public import Idealize.ShloMosaic.Lib.ReduceAll
public import Idealize.ShloMosaic.Lib.IdealHost
public import Idealize.ShloMosaic.PureOps.Ideal.Laws

@[expose] public section

set_option maxRecDepth 16384

noncomputable section

namespace Cert.Equal

open Idealize.ShloMosaic
open Cert.Pre_finite_and_drawn

/-- The shapes of the precondition fit. -/
theorem preFacts : Cert.Pre_finite_and_drawn.Facts where
  bcast_S_S4x96x384x384 := by decide
  reducesTo_S4x96x384x384_S_d0_1_2_3 := by decide
  h_S_ := by decide
  bcast_S_S32x96 := by decide
  reducesTo_S32x96_S_d0_1 := by decide
  bcast_S_S1x32 := by decide
  reducesTo_S1x32_S_d0_1 := by decide
  bcast_S_S1 := by decide
  reducesTo_S1_S_d0 := by decide
  bcast_S_S4x1x384x384 := by decide
  reducesTo_S4x1x384x384_S_d0_1_2_3 := by decide

theorem real_of_abs {v : EReal} (h : Ideal.cmp .olt (max v (-v)) (Ideal.ofBits .f32 0x7F800000#32) = 1#1) : ∃ r : ℝ, v = r := by
  have ht : Ideal.ofBits .f32 0x7F800000#32 = ⊤ := by simp [Ideal.ofBits, Ideal.ieee]
  rw [ht] at h
  induction v with
  | bot => simp [Ideal.cmp] at h
  | top => simp [Ideal.cmp] at h
  | coe r => exact ⟨r, rfl⟩

theorem positive_real {v : EReal} (a : 0 < v) (b : v < ⊤) : ∃ r : ℝ, 0 < r ∧ v = r := by
  induction v with
  | bot => exact absurd a not_lt_bot
  | top => exact absurd b (lt_irrefl _)
  | coe r => exact ⟨r, EReal.coe_pos.mp a, rfl⟩

theorem drawn_real {v : EReal} (a : 0 ≤ v) (b : v < 1) : ∃ r : ℝ, 0 ≤ r ∧ r < 1 ∧ v = r := by
  induction v with
  | bot => exact absurd a (by simp)
  | top => exact absurd b (by simp)
  | coe r => exact ⟨r, EReal.coe_nonneg.mp a, by exact_mod_cast b, rfl⟩

theorem lt_of_cmp {a b : EReal} (h : Ideal.cmp .olt a b = 1#1) : a < b := by
  by_contra hn
  simp [Ideal.cmp, hn] at h

theorem gt_of_cmp {a b : EReal} (h : Ideal.cmp .ogt a b = 1#1) : b < a := by
  by_contra hn
  simp [Ideal.cmp, hn] at h

theorem ge_of_cmp {a b : EReal} (h : Ideal.cmp .oge a b = 1#1) : b ≤ a := by
  by_contra hn
  simp [Ideal.cmp, hn] at h

theorem and_split {a b : BitVec 1} (h : a &&& b = 1#1) : a = 1#1 ∧ b = 1#1 := by
  revert a b
  decide

variable [Facts] (x : FVec Ideal S4x96x384x384 .f32) (w1 : FVec Ideal S32x96 .f32) (w2 : FVec Ideal S1x32 .f32) (t : FVec Ideal S1 .f32) (u : FVec Ideal S4x1x384x384 .f32)
  (h : fn (F := Ideal) x w1 w2 t u = fun _ => 1#1)
include h

/-- Every element of the three arrays is real, the temperature a positive real, and each draw a real of [0, 1). -/
theorem pre_elements : (∀ i, ∃ r : ℝ, x i = (r : EReal)) ∧ (∀ i, ∃ r : ℝ, w1 i = (r : EReal)) ∧ (∀ i, ∃ r : ℝ, w2 i = (r : EReal))
    ∧ (∀ i, ∃ r : ℝ, 0 < r ∧ t i = (r : EReal)) ∧ (∀ i, ∃ r : ℝ, 0 ≤ r ∧ r < 1 ∧ u i = (r : EReal)) := by
  have := congrFun h (fun a => a.elim0)
  simp only [fn, fn_part1, andi] at this
  obtain ⟨h6, h7⟩ := and_split this
  obtain ⟨h5, h6⟩ := and_split h6
  obtain ⟨h4, h5⟩ := and_split h5
  obtain ⟨h3, h4⟩ := and_split h4
  obtain ⟨h2, h3⟩ := and_split h3
  obtain ⟨h1, h2⟩ := and_split h2
  have z0 : Ideal.ofBits .f32 0x00000000#32 = 0 := Ideal.ofBits_zero_f32
  have o1 : Ideal.ofBits .f32 0x3F800000#32 = 1 := Ideal.ofBits_one_f32
  have it : Ideal.ofBits .f32 0x7F800000#32 = ⊤ := by simp [Ideal.ofBits, Ideal.ieee]
  refine ⟨fun i => real_of_abs (Host.reduce_andi_all _ _ _ _ _ h1 i), fun i => real_of_abs (Host.reduce_andi_all _ _ _ _ _ h2 i),
    fun i => real_of_abs (Host.reduce_andi_all _ _ _ _ _ h3 i), fun i => ?_, fun i => ?_⟩
  · have a : Ideal.ofBits .f32 0x00000000#32 < t i := gt_of_cmp (Host.reduce_andi_all _ _ _ _ _ h4 i)
    have b : t i < Ideal.ofBits .f32 0x7F800000#32 := lt_of_cmp (Host.reduce_andi_all _ _ _ _ _ h5 i)
    rw [z0] at a
    rw [it] at b
    exact positive_real a b
  · have a : Ideal.ofBits .f32 0x00000000#32 ≤ u i := ge_of_cmp (Host.reduce_andi_all _ _ _ _ _ h6 i)
    have b : u i < Ideal.ofBits .f32 0x3F800000#32 := lt_of_cmp (Host.reduce_andi_all _ _ _ _ _ h7 i)
    rw [z0] at a
    rw [o1] at b
    exact drawn_real a b

end Cert.Equal

end
-- ==== Proof.RefForm.lean ====
/- The reference's results, cut into named parts: logits, scores, softmax, marks. -/
module

public import proofs.«01_k».proof.Proof.Gen.ReferenceIdeal
public import proofs.«01_k».proof.Proof.Gen.ReferenceIdeal.Run
public import proofs.«01_k».proof.Proof.SelectionRun

@[expose] public section

set_option maxRecDepth 16384

noncomputable section

namespace Cert.ReferenceIdeal.Value

open Cert.ReferenceIdeal Cert.ReferenceIdeal.Gen
open Idealize.ShloMosaic Idealize.ShloMosaic.TcCoe

variable {F : FTy → Type} [FloatOps F]

/-- The logits as an image. -/
def refLogits (x : FVec F S4x96x384x384 .f32) (w1 : FVec F S32x96 .f32) (w2 : FVec F S1x32 .f32) : FVec F S4x1x384x384 .f32 :=
  transpose S4x1x384x384 [1, 0, 2, 3] (Host.dotGeneral dot_S1x32_S4x32x384x384_S1x4x384x384_1_1_0_023_n_n none w2 (maximumf (transpose S4x32x384x384 [1, 0, 2, 3] (Host.dotGeneral dot_S32x96_S4x96x384x384_S32x4x384x384_1_1_0_023_n_n none w1 x) transposes_S32x4x384x384_S4x32x384x384_1_0_2_3) (broadcastInDim S4x32x384x384 ![] bcast_S_S4x32x384x384 (constant S_ .f32 0x00000000#32)))) transposes_S1x4x384x384_S4x1x384x384_1_0_2_3

/-- The scores, a row per image. -/
def refScores (x : FVec F S4x96x384x384 .f32) (w1 : FVec F S32x96 .f32) (w2 : FVec F S1x32 .f32) (u : FVec F S4x1x384x384 .f32) : FVec F S4x1x147456 .f32 :=
  shapeCast _ (addf (refLogits x w1 w2) (Host.negf (Host.log (addf (Host.negf (Host.log (addf u (broadcastInDim S4x1x384x384 ![] bcast_S_S4x1x384x384 (constant S_ .f32 0x1E3CE508#32))))) (broadcastInDim S4x1x384x384 ![] bcast_S_S4x1x384x384 (constant S_ .f32 0x1E3CE508#32)))))) shapeCasts_S4x1x384x384_S4x1x147456

/-- The scores over the temperature. -/
def heated (s : FVec F S4x1x147456 .f32) (t : FVec F S1 .f32) : FVec F S4x1x147456 .f32 :=
  Host.divf s (broadcastInDim S4x1x147456 ![] bcast_S_S4x1x147456 (shapeCast _ t shapeCasts_S1_S_))

/-- The greatest of each row. -/
def topOf (h : FVec F S4x1x147456 .f32) : FVec F S4x1 .f32 :=
  maximumf (broadcastInDim S4x1 ![] bcast_S_S4x1 (constant S_ .f32 0xFF800000#32)) (Host.reduce FloatOps.maximumf h (constant S_ .f32 0xFF800000#32) reducesTo_S4x1x147456_S4x1_d2 h_S_)

/-- The exponentials of the distances below the greatest. -/
def expsOf (h : FVec F S4x1x147456 .f32) : FVec F S4x1x147456 .f32 :=
  Host.exp (subf h (broadcastInDim S4x1x147456 ![0, 1, 2] bcast_S4x1x1_S4x1x147456_0_1_2 (broadcastInDim S4x1x1 ![0, 1] bcast_S4x1_S4x1x1_0_1 (topOf h))))

/-- The softmax of each row. -/
def softOf (h : FVec F S4x1x147456 .f32) : FVec F S4x1x147456 .f32 :=
  Host.divf (expsOf h) (broadcastInDim S4x1x147456 ![0, 1, 2] bcast_S4x1x1_S4x1x147456_0_1_2 (broadcastInDim S4x1x1 ![0, 1] bcast_S4x1_S4x1x1_0_1 (Host.reduceAdd (expsOf h) (constant S_ .f32 0x00000000#32) reducesTo_S4x1x147456_S4x1_d2 h_S_)))

/-- The straight-through mask for the marks' image and the softmax's. -/
def passed (a y : FVec F S4x1x384x384 .f32) : FVec F S4x1x384x384 .f32 := addf (subf a y) y

variable (m : (ℓ : Loc nD τ sig) → Buf (Elt F) ℓ) (c : Dev nD)

/-- The softmax of the arguments. -/
def argSoft : FVec F S4x1x147456 .f32 :=
  softOf (heated (refScores (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg3)))

theorem res_mask : res_main_v52 m c = passed (shapeCast S4x1x384x384 (Cert.Selection.Value.marked (argSoft m c)) shapeCasts_S4x147456_S4x1x384x384)
    (shapeCast S4x1x384x384 (argSoft m c) shapeCasts_S4x1x147456_S4x1x384x384) := by
  unfold res_main_v52
  rfl

theorem res_masked : res_main_v53 m c = mulf (refLogits (m ((c.tc : Thread nD τ).loc main_arg0)) (m ((c.tc : Thread nD τ).loc main_arg1)) (m ((c.tc : Thread nD τ).loc main_arg2))) (res_main_v52 m c) := by
  unfold res_main_v53 res_main_v52
  rfl

end Cert.ReferenceIdeal.Value

end
-- ==== Proof.RefLogits.lean ====
/- The logits and scores over the extended reals: the plain products and the reference's agree. -/
module

public import proofs.«01_k».proof.Proof.RefForm
public import proofs.«01_k».proof.Proof.Blocks
public import Idealize.ShloMosaic.Lib.Pointwise

@[expose] public section

set_option maxRecDepth 16384

noncomputable section

namespace Cert.Equal

open Idealize.ShloMosaic
open Cert.ReferenceIdeal.Value Cert.Selection.Value

/-- The logit as a sum. -/
def logitSum (x : FVec Ideal Cert.ReferenceIdeal.S4x96x384x384 .f32) (w1 : FVec Ideal Cert.ReferenceIdeal.S32x96 .f32) (w2 : FVec Ideal Cert.ReferenceIdeal.S1x32 .f32)
    (n : Fin 4) (a b : Fin 384) : EReal :=
  ∑ k : Fin 32, w2 (ValueIdx.ix2 (0 : Fin 1) k) * max (∑ i : Fin 96, w1 (ValueIdx.ix2 k i) * x (ValueIdx.ix4 n i a b)) 0

theorem refLogits_apply (x : FVec Ideal Cert.ReferenceIdeal.S4x96x384x384 .f32) (w1 : FVec Ideal Cert.ReferenceIdeal.S32x96 .f32) (w2 : FVec Ideal Cert.ReferenceIdeal.S1x32 .f32)
    (n : Fin 4) (a b : Fin 384) : refLogits x w1 w2 (ValueIdx.ix4 n (0 : Fin 1) a b) = logitSum x w1 w2 n a b := by
  unfold logitSum
  pointwise [refLogits]
  rfl

theorem rowLogits_sum (w1 : FVec Ideal Cert.Selection.S32x96 .f32) (xs : FVec Ideal Cert.Selection.S96x8192 .f32) (w2 : FVec Ideal Cert.Selection.S1x32 .f32) (l : Fin 8192) :
    rowLogits (F := Ideal) w1 xs w2 (ValueIdx.ix2 (0 : Fin 1) l)
      = ∑ k : Fin 32, w2 (ValueIdx.ix2 (0 : Fin 1) k) * max (∑ i : Fin 96, w1 (ValueIdx.ix2 k i) * xs (ValueIdx.ix2 i l)) 0 := by
  pointwise [rowLogits]
  rfl

theorem oneCol_eq (l : Fin 8192) : oneCol l = ValueIdx.ix2 (0 : Fin 1) l := by
  funext a
  match a with
  | ⟨0, _⟩ => rfl
  | ⟨1, _⟩ => rfl

theorem im_split (i : Fin 96) (y : Cert.Selection.S4x1x384x384.Idx) : imAt (C := 96) (y 0) i (blockPlace (blockNo (placeNo y)) (blockCol (placeNo y))) = ValueIdx.ix4 (y 0) i (y 2) (y 3) := by
  have h2 : (y 2).val < 384 := (y 2).isLt
  have h3 : (y 3).val < 384 := (y 3).isLt
  have e : (blockPlace (blockNo (placeNo y)) (blockCol (placeNo y))).val = (y 2).val * 384 + (y 3).val := by
    show 8192 * (((y 2).val * 384 + (y 3).val) / 8192) + ((y 2).val * 384 + (y 3).val) % 8192 = _
    omega
  funext a
  match a with
  | ⟨0, _⟩ => rfl
  | ⟨1, _⟩ => rfl
  | ⟨2, _⟩ =>
    apply Fin.ext
    show (blockPlace (blockNo (placeNo y)) (blockCol (placeNo y))).val / 384 = (y 2).val
    omega
  | ⟨3, _⟩ =>
    apply Fin.ext
    show (blockPlace (blockNo (placeNo y)) (blockCol (placeNo y))).val % 384 = (y 3).val
    omega

theorem idx_split (y : Cert.Selection.S4x1x384x384.Idx) : y = ValueIdx.ix4 (y 0) (0 : Fin 1) (y 2) (y 3) := by
  funext a
  match a with
  | ⟨0, _⟩ => rfl
  | ⟨1, _⟩ => exact Subsingleton.elim (α := Fin 1) _ _
  | ⟨2, _⟩ => rfl
  | ⟨3, _⟩ => rfl

variable (x : FVec Ideal Cert.ReferenceIdeal.S4x96x384x384 .f32) (w1 : FVec Ideal Cert.ReferenceIdeal.S32x96 .f32) (w2 : FVec Ideal Cert.ReferenceIdeal.S1x32 .f32)
  (u : FVec Ideal Cert.ReferenceIdeal.S4x1x384x384 .f32)

/-- The logits agree. -/
theorem logits_eq : logitsIm (F := Ideal) x w1 w2 = refLogits x w1 w2 := by
  funext y
  have hl : logitsIm (F := Ideal) x w1 w2 y = logitSum x w1 w2 (y 0) (y 2) (y 3) := by
    have h := logitsIm_apply (F := Ideal) x w1 w2 (y 0) (placeNo y)
    rw [imAt_placeNo, oneCol_eq, rowLogits_sum] at h
    refine h.trans ?_
    unfold logitSum
    refine Finset.sum_congr rfl fun k _ => congrArg (fun v : EReal => w2 (ValueIdx.ix2 (0 : Fin 1) k) * max v 0) (Finset.sum_congr rfl fun i _ => ?_)
    exact congrArg (fun v : EReal => w1 (ValueIdx.ix2 k i) * v) (congrArg x (im_split i y))
  have hr : refLogits x w1 w2 y = logitSum x w1 w2 (y 0) (y 2) (y 3) := by
    conv_lhs => rw [idx_split y]
    exact refLogits_apply x w1 w2 (y 0) (y 2) (y 3)
  exact hl.trans hr.symm

/-- The scores agree. -/
theorem scores_eq : scoresIm (F := Ideal) x w1 w2 u = refScores x w1 w2 u := by
  unfold scoresIm refScores
  rw [logits_eq]
  refine congrArg (fun v : FVec Ideal Cert.ReferenceIdeal.S4x1x384x384 .f32 => shapeCast Cert.ReferenceIdeal.S4x1x147456 v Cert.ReferenceIdeal.Gen.shapeCasts_S4x1x384x384_S4x1x147456) ?_
  funext y
  pointwise [Cert.Selection.Gen.k0_pay2]
  simp only [zero_sub]

end Cert.Equal

end
-- ==== Proof.ScoreReal.lean ====
/- Finite arrays and noise drawn from [0, 1) give real scores. -/
module

public import proofs.«01_k».proof.Proof.RefLogits

@[expose] public section

set_option maxRecDepth 16384

noncomputable section

namespace Cert.Equal

open Idealize.ShloMosaic
open Cert.ReferenceIdeal.Value

theorem real_add {a b : EReal} (ha : ∃ r : ℝ, a = r) (hb : ∃ r : ℝ, b = r) : ∃ r : ℝ, a + b = r := by
  obtain ⟨p, rfl⟩ := ha
  obtain ⟨q, rfl⟩ := hb
  exact ⟨p + q, (EReal.coe_add p q).symm⟩

theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

theorem real_relu {a : EReal} (ha : ∃ r : ℝ, a = r) : ∃ r : ℝ, max a 0 = r := by
  obtain ⟨p, rfl⟩ := ha
  exact ⟨max p 0, by rw [EReal.coe_strictMono.monotone.map_max, EReal.coe_zero]⟩

theorem real_sum {ι : Type} (s : Finset ι) (f : ι → EReal) (hf : ∀ k ∈ s, ∃ r : ℝ, f k = r) : ∃ r : ℝ, ∑ k ∈ s, f k = r := by
  classical
  induction s using Finset.induction_on with
  | empty => exact ⟨0, by simp⟩
  | insert a s ha ih =>
    rw [Finset.sum_insert ha]
    exact real_add (hf a (Finset.mem_insert_self a s)) (ih fun k hk => hf k (Finset.mem_insert_of_mem hk))

/-- The small constant is a positive real. -/
theorem eps_real : ∃ e : ℝ, 0 < e ∧ Ideal.ofBits .f32 0x1E3CE508#32 = (e : EReal) := by
  refine ⟨_, ?_, by simp [Ideal.ofBits, Ideal.ieee, -EReal.coe_mul]; rfl⟩
  positivity

/-- The noise of a draw is real. -/
theorem noise_real {v : EReal} {e : ℝ} (he : 0 < e) (hv : ∃ r : ℝ, 0 ≤ r ∧ r < 1 ∧ v = r) : ∃ r : ℝ, -Ideal.log (-Ideal.log (v + (e : EReal)) + (e : EReal)) = r := by
  obtain ⟨r, h0, h1, rfl⟩ := hv
  have hp : 0 < r + e := by linarith
  have hl : Real.log (r + e) ≤ r + e - 1 := Real.log_le_sub_one_of_pos hp
  have hq : 0 < -Real.log (r + e) + e := by linarith
  rw [← EReal.coe_add, Ideal.log_coe, if_neg (not_le.mpr hp), ← EReal.coe_neg, ← EReal.coe_add, Ideal.log_coe, if_neg (not_le.mpr hq), ← EReal.coe_neg]
  exact ⟨_, rfl⟩

variable (x : FVec Ideal Cert.ReferenceIdeal.S4x96x384x384 .f32) (w1 : FVec Ideal Cert.ReferenceIdeal.S32x96 .f32) (w2 : FVec Ideal Cert.ReferenceIdeal.S1x32 .f32)
  (u : FVec Ideal Cert.ReferenceIdeal.S4x1x384x384 .f32)
  (hx : ∀ i, ∃ r : ℝ, x i = (r : EReal)) (hw1 : ∀ i, ∃ r : ℝ, w1 i = (r : EReal)) (hw2 : ∀ i, ∃ r : ℝ, w2 i = (r : EReal))
  (hu : ∀ i, ∃ r : ℝ, 0 ≤ r ∧ r < 1 ∧ u i = (r : EReal))
include hx hw1 hw2

theorem logit_real (y : Cert.ReferenceIdeal.S4x1x384x384.Idx) : ∃ r : ℝ, refLogits x w1 w2 y = (r : EReal) := by
  have h := refLogits_apply x w1 w2 (y 0) (y 2) (y 3)
  have e : refLogits x w1 w2 y = refLogits x w1 w2 (ValueIdx.ix4 (y 0) (0 : Fin 1) (y 2) (y 3)) := congrArg _ (idx_split y)
  rw [e, h]
  exact real_sum _ _ fun k _ => real_mul (hw2 _) (real_relu (real_sum _ _ fun i _ => real_mul (hw1 _) (hx _)))

include hu

theorem score_real (n : Fin 4) (p : Fin 147456) : ∃ r : ℝ, refScores x w1 w2 u (ValueIdx.ix3 n (0 : Fin 1) p) = (r : EReal) := by
  obtain ⟨e, he, hb⟩ := eps_real
  rw [← scores_eq, Cert.Selection.Value.scoresIm_apply, logits_eq]
  refine real_add (logit_real x w1 w2 hx hw1 hw2 _) ?_
  have h := noise_real he (hu (Cert.Selection.Value.imAt n (0 : Fin 1) p))
  have hz : Cert.Selection.Value.noiseOf (F := Ideal) (u (Cert.Selection.Value.imAt n (0 : Fin 1) p))
      = -Ideal.log (-Ideal.log (u (Cert.Selection.Value.imAt n (0 : Fin 1) p) + (e : EReal)) + (e : EReal)) := by
    unfold Cert.Selection.Value.noiseOf
    simp only [Ideal.ofBits_def, Ideal.addf_def, Ideal.subf_def, Ideal.log_def, hb, Ideal.ofBits_zero_f32, zero_sub]
  rw [hz]
  exact h

end Cert.Equal

end
-- ==== Proof.SoftRead.lean ====
/- The softmax read at a place. -/
module

public import proofs.«01_k».proof.Proof.RefForm
public import Idealize.ShloMosaic.Lib.Pointwise

@[expose] public section

set_option maxRecDepth 16384

noncomputable section

namespace Cert.Equal

open Idealize.ShloMosaic
open Cert.ReferenceIdeal.Value

theorem heated_apply (s : FVec Ideal Cert.ReferenceIdeal.S4x1x147456 .f32) (t : FVec Ideal Cert.ReferenceIdeal.S1 .f32) (n : Fin 4) (p : Fin 147456) :
    heated s t (ValueIdx.ix3 n (0 : Fin 1) p) = Ideal.div (s (ValueIdx.ix3 n (0 : Fin 1) p)) (t (ValueIdx.ix1 (0 : Fin 1))) := by
  pointwise [heated]
  rfl

theorem topOf_apply (h : FVec Ideal Cert.ReferenceIdeal.S4x1x147456 .f32) (n : Fin 4) :
    topOf h (ValueIdx.ix2 n (0 : Fin 1)) = max (Ideal.ofBits .f32 0xFF800000#32)
      (Finset.fold max (Ideal.ofBits .f32 0xFF800000#32) (fun k : Fin 147456 => h (ValueIdx.ix3 n (0 : Fin 1) k)) Finset.univ) := by
  pointwise [topOf]
  rfl

theorem expsOf_apply (h : FVec Ideal Cert.ReferenceIdeal.S4x1x147456 .f32) (n : Fin 4) (p : Fin 147456) :
    expsOf h (ValueIdx.ix3 n (0 : Fin 1) p) = Ideal.exp (h (ValueIdx.ix3 n (0 : Fin 1) p) - topOf h (ValueIdx.ix2 n (0 : Fin 1))) := by
  pointwise [expsOf]
  rfl

theorem softOf_apply (h : FVec Ideal Cert.ReferenceIdeal.S4x1x147456 .f32) (n : Fin 4) (p : Fin 147456) :
    softOf h (ValueIdx.ix3 n (0 : Fin 1) p) = Ideal.div (expsOf h (ValueIdx.ix3 n (0 : Fin 1) p)) (∑ k : Fin 147456, expsOf h (ValueIdx.ix3 n (0 : Fin 1) k)) := by
  pointwise [softOf]
  rfl

end Cert.Equal

end
-- ==== Proof.Soft.lean ====
/- The softmax of a row of real scores over a positive temperature keeps their order. -/
module

public import proofs.«01_k».proof.Proof.SoftRead
public import proofs.«01_k».proof.Proof.Marks

@[expose] public section

set_option maxRecDepth 16384

noncomputable section

namespace Cert.Equal

open Idealize.ShloMosaic
open Cert.ReferenceIdeal.Value
open Cert.Selection.Value (beats marked marked_apply)

/-- The greatest of finitely many reals, from minus infinity, is a real when there is one. -/
theorem greatest_real {ι : Type} (s : Finset ι) (f : ι → EReal) (hf : ∀ k ∈ s, ∃ r : ℝ, f k = r) :
    Finset.fold max ⊥ f s = ⊥ ∨ ∃ r : ℝ, Finset.fold max ⊥ f s = r := by
  classical
  induction s using Finset.induction_on with
  | empty => exact Or.inl rfl
  | insert a s ha ih =>
    rw [Finset.fold_insert ha]
    obtain ⟨r, hr⟩ := hf a (Finset.mem_insert_self a s)
    rcases ih (fun k hk => hf k (Finset.mem_insert_of_mem hk)) with h | ⟨q, h⟩
    · exact Or.inr ⟨r, by rw [h, hr, max_eq_left bot_le]⟩
    · refine Or.inr ⟨max r q, ?_⟩
      rw [h, hr, EReal.coe_strictMono.monotone.map_max]

theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem low_bits : Ideal.ofBits .f32 0xFF800000#32 = ⊥ := by simp [Ideal.ofBits, Ideal.ieee]

/-- The softmax of a row of reals. -/
theorem soft_row (h : FVec Ideal Cert.ReferenceIdeal.S4x1x147456 .f32) (n : Fin 4) (g : Fin 147456 → ℝ)
    (hg : ∀ p, h (ValueIdx.ix3 n (0 : Fin 1) p) = (g p : EReal)) :
    ∃ top sum : ℝ, 0 < sum ∧ ∀ p, softOf h (ValueIdx.ix3 n (0 : Fin 1) p) = ((Real.exp (g p - top) * (1 / sum) : ℝ) : EReal) := by
  have ht : ∃ top : ℝ, topOf h (ValueIdx.ix2 n (0 : Fin 1)) = top := by
    rw [topOf_apply, low_bits, max_eq_right bot_le]
    rcases greatest_real Finset.univ (fun k : Fin 147456 => h (ValueIdx.ix3 n (0 : Fin 1) k)) (fun k _ => ⟨g k, hg k⟩) with e | e
    · have := (Finset.le_fold_max (s := Finset.univ) (f := fun k : Fin 147456 => (h (ValueIdx.ix3 n (0 : Fin 1) k) : EReal)) (b := (⊥ : EReal)) (g 0 : EReal)).mpr
        (Or.inr ⟨0, Finset.mem_univ _, (hg 0).ge⟩)
      rw [e] at this
      exact absurd (le_bot_iff.mp this) (EReal.coe_ne_bot _)
    · exact e
  obtain ⟨top, ht⟩ := ht
  have he : ∀ p, expsOf h (ValueIdx.ix3 n (0 : Fin 1) p) = ((Real.exp (g p - top) : ℝ) : EReal) := fun p => by
    rw [expsOf_apply, ht, hg, ← EReal.coe_sub, Ideal.exp_coe]
  have hs : 0 < ∑ k : Fin 147456, Real.exp (g k - top) := Finset.sum_pos (fun k _ => Real.exp_pos _) ⟨0, Finset.mem_univ _⟩
  refine ⟨top, ∑ k : Fin 147456, Real.exp (g k - top), hs, fun p => ?_⟩
  rw [softOf_apply, he, Finset.sum_congr rfl fun k _ => he k, sum_real, Ideal.div_coe hs.ne', ← EReal.coe_mul]

theorem beats_iff (z : Vec Ideal Cert.Selection.S4x1x147456 .f32) (n : Fin 4) (a b : Fin 147456) :
    beats z n a b = true ↔ (z (ValueIdx.ix3 n (0 : Fin 1) b) : EReal) < (z (ValueIdx.ix3 n (0 : Fin 1) a) : EReal) := by
  unfold beats
  rw [Ideal.cmpfTotal_def]
  unfold Ideal.cmp
  generalize (z (ValueIdx.ix3 n (0 : Fin 1) a) : EReal) = p
  generalize (z (ValueIdx.ix3 n (0 : Fin 1) b) : EReal) = q
  show (BitVec.ofBool (decide (q < p)) == 1#1) = true ↔ q < p
  by_cases h : q < p
  · simp [h]
  · simp [h]

variable (s : FVec Ideal Cert.ReferenceIdeal.S4x1x147456 .f32) (t : FVec Ideal Cert.ReferenceIdeal.S1 .f32)
  (hs : ∀ n p, ∃ r : ℝ, s (ValueIdx.ix3 n (0 : Fin 1) p) = (r : EReal)) (ht : ∃ r : ℝ, 0 < r ∧ t (ValueIdx.ix1 (0 : Fin 1)) = (r : EReal))
include hs ht

/-- The softmax is real and keeps the order. -/
theorem soft_keeps (n : Fin 4) : (∀ p, ∃ r : ℝ, softOf (heated s t) (ValueIdx.ix3 n (0 : Fin 1) p) = (r : EReal))
    ∧ beats (F := Ideal) (softOf (heated s t)) n = beats (F := Ideal) s n := by
  obtain ⟨d, hd, ht⟩ := ht
  choose f hr using hs n
  have hh : ∀ p, heated s t (ValueIdx.ix3 n (0 : Fin 1) p) = ((f p * (1 / d) : ℝ) : EReal) := fun p => by
    rw [heated_apply, ht, hr p, Ideal.div_coe hd.ne', ← EReal.coe_mul]
  obtain ⟨top, sum, hp, hv⟩ := soft_row (heated s t) n (fun p => f p * (1 / d)) hh
  refine ⟨fun p => ⟨_, hv p⟩, ?_⟩
  funext a b
  refine Bool.eq_iff_iff.mpr ((beats_iff _ n a b).trans (Iff.trans ?_ (beats_iff _ n a b).symm))
  rw [hv a, hv b, hr a, hr b, EReal.coe_lt_coe_iff, EReal.coe_lt_coe_iff, mul_lt_mul_iff_left₀ (one_div_pos.mpr hp), Real.exp_lt_exp,
    sub_lt_sub_iff_right, mul_lt_mul_iff_left₀ (one_div_pos.mpr hd)]

/-- The marks of the softmax are the marks of the scores. -/
theorem marks_eq : marked (F := Ideal) (softOf (heated s t)) = marked (F := Ideal) s := by
  have row : ∀ (n : Fin 4) (j : Fin 147456), marked (F := Ideal) (softOf (heated s t)) (ValueIdx.ix2 n j) = marked (F := Ideal) s (ValueIdx.ix2 n j) := fun n j => by
    rw [marked_apply, marked_apply, (soft_keeps s t hs ht n).2]
  funext y
  have e : y = ValueIdx.ix2 (y 0) (y 1) := by
    funext a
    match a with
    | ⟨0, _⟩ => rfl
    | ⟨1, _⟩ => rfl
  exact (congrArg _ e).trans ((row (y 0) (y 1)).trans (congrArg _ e.symm))

end Cert.Equal

end
-- ==== Proof.SelectionIdealRun.lean ====
/- What the plain selection read at the reals leaves in its results: the logits block by block, the noise, and the lines after them. -/
module

public import proofs.«01_k».proof.Proof.Gen.SelectionIdeal.Frame
public import Idealize.ShloMosaic.Lib.Pipeline.ValueKit
public import Idealize.ShloMosaic.Lib.VecWindow
public import Idealize.ShloMosaic.Lib.Writes
public import Idealize.ShloMosaic.Lib.WholeRead
public import Idealize.ShloMosaic.Lib.Claim

@[expose] public section

set_option maxRecDepth 16384

noncomputable section

namespace Cert.SelectionIdeal.Value

open Cert.SelectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-! ## The region -/

/-- A place of block `k`, as a place of all the blocks. -/
def atBlock (k : Fin 72) (j : S1x96x8192.Idx) : S72x96x8192.Idx := fun a => match a with
  | ⟨0, _⟩ => k
  | ⟨1, _⟩ => j 1
  | ⟨2, _⟩ => j 2

/-- A column of a block of logits. -/
def inOne (l : Fin 8192) : S1x1x8192.Idx := fun a => match a with
  | ⟨0, _⟩ => ⟨0, Nat.one_pos⟩
  | ⟨1, _⟩ => ⟨0, Nat.one_pos⟩
  | ⟨2, _⟩ => l

/-- The logits of all the blocks: each block's from that block of the input. -/
def logitsOf (x0 : Vec F S72x96x8192 .f32) (x1 : Vec F S32x96 .f32) (x2 : Vec F S1x32 .f32) : Vec F S72x1x8192 .f32 := fun y =>
  k0_pay1 x1 (fun j => x0 (atBlock (y 0) j)) x2 (inOne (y 2))

/-- What one trip stores: its block of the logits. -/
theorem trip_pieces (𝒱 : Variants) (c : Dev nD) (bd : Option 𝒱.V) (arg0 : Memref sig .tc .vmem S72x96x8192 .f32) (harg0 : arg0.IsWhole) (arg1 : Memref sig .tc .vmem S32x96 .f32) (harg1 : arg1.IsWhole) (arg2 : Memref sig .tc .vmem S1x32 .f32) (harg2 : arg2.IsWhole) (arg3 : Memref sig .tc .vmem S4x1x384x384 .f32) (harg3 : arg3.IsWhole) (arg4 : Memref sig .tc .vmem S72x1x8192 .f32) (harg4 : arg4.IsWhole) (arg5 : Memref sig .tc .vmem S4x1x384x384 .f32) (harg5 : arg5.IsWhole)
    (X0 : BufTy.Contents (Elt F) arg0.view.ty) (X1 : BufTy.Contents (Elt F) arg1.view.ty) (X2 : BufTy.Contents (Elt F) arg2.view.ty) (k : Fin k0_t1_loop.trips) :
    tripL_k0_t1 (F := F) 𝒱 c bd arg0 harg0 arg1 harg1 arg2 harg2 arg3 harg3 arg4 harg4 arg5 harg5 X0 X1 X2 k
      = [⟨Rect.unit (s := S72x1x8192) (k0_off2 k) S1x1x8192.size (k0_off2_inb k),
          k0_pay1 (View.readAt (Elt F) arg1.view (Rect.unit (s := S32x96) ![0, 0] S32x96.size inb_S32x96_S32x96_0_0).toLoadRect X1)
            (View.readAt (Elt F) arg0.view (Rect.unit (s := S72x96x8192) (k0_off1 k) S1x96x8192.size (k0_off1_inb k)).toLoadRect X0)
            (View.readAt (Elt F) arg2.view (Rect.unit (s := S1x32) ![0, 0] S1x32.size inb_S1x32_S1x32_0_0).toLoadRect X2)⟩] := by
  unfold tripL_k0_t1 trip_k0_t1
  rfl

theorem run_pieces4 (c : Dev nD) (arg0 : Memref sig .tc .vmem S72x96x8192 .f32) (harg0 : arg0.IsWhole) (arg1 : Memref sig .tc .vmem S32x96 .f32) (harg1 : arg1.IsWhole) (arg2 : Memref sig .tc .vmem S1x32 .f32) (harg2 : arg2.IsWhole) (arg3 : Memref sig .tc .vmem S4x1x384x384 .f32) (harg3 : arg3.IsWhole) (arg4 : Memref sig .tc .vmem S72x1x8192 .f32) (harg4 : arg4.IsWhole) (arg5 : Memref sig .tc .vmem S4x1x384x384 .f32) (harg5 : arg5.IsWhole)
    (x0 : Vec F S72x96x8192 .f32) (x1 : Vec F S32x96 .f32) (x2 : Vec F S1x32 .f32) (x3 : Vec F S4x1x384x384 .f32) :
    (kernelRun0_A c arg0 harg0 arg1 harg1 arg2 harg2 arg3 harg3 arg4 harg4 arg5 harg5 x0 x1 x2 x3).1
      = pb_k0_t1 (F := F) Variants.none c none arg0 harg0 arg1 harg1 arg2 harg2 arg3 harg3 arg4 harg4 arg5 harg5 (harg0.unread x0) (harg1.unread x1) (harg2.unread x2) k0_t1_loop.trips := by
  unfold kernelRun0_A
  rfl

theorem run_pieces5 (c : Dev nD) (arg0 : Memref sig .tc .vmem S72x96x8192 .f32) (harg0 : arg0.IsWhole) (arg1 : Memref sig .tc .vmem S32x96 .f32) (harg1 : arg1.IsWhole) (arg2 : Memref sig .tc .vmem S1x32 .f32) (harg2 : arg2.IsWhole) (arg3 : Memref sig .tc .vmem S4x1x384x384 .f32) (harg3 : arg3.IsWhole) (arg4 : Memref sig .tc .vmem S72x1x8192 .f32) (harg4 : arg4.IsWhole) (arg5 : Memref sig .tc .vmem S4x1x384x384 .f32) (harg5 : arg5.IsWhole)
    (x0 : Vec F S72x96x8192 .f32) (x1 : Vec F S32x96 .f32) (x2 : Vec F S1x32 .f32) (x3 : Vec F S4x1x384x384 .f32) :
    (kernelRun0_A c arg0 harg0 arg1 harg1 arg2 harg2 arg3 harg3 arg4 harg4 arg5 harg5 x0 x1 x2 x3).2.1
      = [⟨Rect.unit (s := S4x1x384x384) ![0, 0, 0, 0] S4x1x384x384.size inb_S4x1x384x384_S4x1x384x384_0_0_0_0,
          k0_pay2 (View.readAt (Elt F) arg3.view
            (Rect.unit (s := S4x1x384x384) ![0, 0, 0, 0] S4x1x384x384.size inb_S4x1x384x384_S4x1x384x384_0_0_0_0).toLoadRect (harg3.unread x3))⟩] := by
  unfold kernelRun0_A
  rfl

theorem trips_72 : k0_t1_loop.trips = 72 := by decide +kernel

/-- Every piece of the loop holds, where it stands, what `logitsOf` says. -/
theorem loop_pieces (c : Dev nD) (arg0 : Memref sig .tc .vmem S72x96x8192 .f32) (harg0 : arg0.IsWhole) (arg1 : Memref sig .tc .vmem S32x96 .f32) (harg1 : arg1.IsWhole) (arg2 : Memref sig .tc .vmem S1x32 .f32) (harg2 : arg2.IsWhole) (arg3 : Memref sig .tc .vmem S4x1x384x384 .f32) (harg3 : arg3.IsWhole) (arg4 : Memref sig .tc .vmem S72x1x8192 .f32) (harg4 : arg4.IsWhole) (arg5 : Memref sig .tc .vmem S4x1x384x384 .f32) (harg5 : arg5.IsWhole)
    (x0 : Vec F S72x96x8192 .f32) (x1 : Vec F S32x96 .f32) (x2 : Vec F S1x32 .f32) (x3 : Vec F S4x1x384x384 .f32) :
    ∀ n ≤ k0_t1_loop.trips, ∀ p ∈ pb_k0_t1 (F := F) Variants.none c none arg0 harg0 arg1 harg1 arg2 harg2 arg3 harg3 arg4 harg4 arg5 harg5 (harg0.unread x0) (harg1.unread x1) (harg2.unread x2) n,
      ∀ x : p.1.shape.Idx, p.2 x = logitsOf x0 x1 x2 (p.1.emb x) := by
  intro n
  induction n with
  | zero => intro _ p hp; exact absurd hp List.not_mem_nil
  | succ n ih =>
    intro hn p hp
    have e := pb_k0_t1_succ (F := F) Variants.none c none arg0 harg0 arg1 harg1 arg2 harg2 arg3 harg3 arg4 harg4 arg5 harg5 (harg0.unread x0) (harg1.unread x1) (harg2.unread x2) ⟨n, hn⟩
    dsimp only at e
    rw [e, List.mem_append] at hp
    rcases hp with hp | hp
    · rw [trip_pieces, List.mem_singleton] at hp
      subst hp
      intro x
      dsimp only at x ⊢
      rw [View.readAt_full, View.readAt_full, harg1.read_unread, harg2.read_unread]
      have o20 : k0_off2 ⟨n, hn⟩ 0 = n := by rw [k0_off2_eq]; rfl
      have o22 : k0_off2 ⟨n, hn⟩ 2 = 0 := by rw [k0_off2_eq]; rfl
      have o10 : k0_off1 ⟨n, hn⟩ 0 = n := by rw [k0_off1_eq]; rfl
      have o11 : k0_off1 ⟨n, hn⟩ 1 = 0 := by rw [k0_off1_eq]; rfl
      have o12 : k0_off1 ⟨n, hn⟩ 2 = 0 := by rw [k0_off1_eq]; rfl
      have h0 : (((Rect.unit (s := S72x1x8192) (k0_off2 ⟨n, hn⟩) S1x1x8192.size (k0_off2_inb ⟨n, hn⟩)).emb x) 0).val = n := by
        show k0_off2 ⟨n, hn⟩ 0 + 1 * (x 0).val = n
        have h : (x 0).val < 1 := (x 0).isLt
        rw [o20]
        omega
      have h2 : ((Rect.unit (s := S72x1x8192) (k0_off2 ⟨n, hn⟩) S1x1x8192.size (k0_off2_inb ⟨n, hn⟩)).emb x) 2 = x 2 := by
        apply Fin.ext
        show k0_off2 ⟨n, hn⟩ 2 + 1 * (x 2).val = (x 2).val
        rw [o22]
        omega
      unfold logitsOf
      rw [h2]
      have hx : inOne (x 2) = x := by
        funext a
        match a with
        | ⟨0, _⟩ => exact Fin.ext (by have h : (x 0).val < 1 := (x 0).isLt; show 0 = (x 0).val; omega)
        | ⟨1, _⟩ => exact Fin.ext (by have h : (x 1).val < 1 := (x 1).isLt; show 0 = (x 1).val; omega)
        | ⟨2, _⟩ => rfl
      rw [hx]
      congr 1
      congr 1
      funext j
      rw [harg0.readAt_unread]
      congr 1
      funext a
      apply Fin.ext
      have hj : (j 0).val < 1 := (j 0).isLt
      match a with
      | ⟨0, _⟩ =>
        show k0_off1 ⟨n, hn⟩ 0 + 1 * (j 0).val = _
        refine Eq.trans ?_ h0.symm
        rw [o10]
        omega
      | ⟨1, _⟩ =>
        show k0_off1 ⟨n, hn⟩ 1 + 1 * (j 1).val = (j 1).val
        rw [o11]
        omega
      | ⟨2, _⟩ =>
        show k0_off1 ⟨n, hn⟩ 2 + 1 * (j 2).val = (j 2).val
        rw [o12]
        omega
    · exact ih (by omega) p hp

theorem out4 (c : Dev nD) (arg0 : Memref sig .tc .vmem S72x96x8192 .f32) (harg0 : arg0.IsWhole) (arg1 : Memref sig .tc .vmem S32x96 .f32) (harg1 : arg1.IsWhole) (arg2 : Memref sig .tc .vmem S1x32 .f32) (harg2 : arg2.IsWhole) (arg3 : Memref sig .tc .vmem S4x1x384x384 .f32) (harg3 : arg3.IsWhole) (arg4 : Memref sig .tc .vmem S72x1x8192 .f32) (harg4 : arg4.IsWhole) (arg5 : Memref sig .tc .vmem S4x1x384x384 .f32) (harg5 : arg5.IsWhole)
    (x0 : Vec F S72x96x8192 .f32) (x1 : Vec F S32x96 .f32) (x2 : Vec F S1x32 .f32) (x3 : Vec F S4x1x384x384 .f32) : out0_A_4 c arg0 harg0 arg1 harg1 arg2 harg2 arg3 harg3 arg4 harg4 arg5 harg5 x0 x1 x2 x3 = logitsOf x0 x1 x2 := by
  funext y
  unfold out0_A_4
  refine View.read_writes_apply_of_pieces _ _ (logitsOf x0 x1 x2) _ ?_ y (cover0_A_4 c arg0 harg0 arg1 harg1 arg2 harg2 arg3 harg3 arg4 harg4 arg5 harg5 x0 x1 x2 x3 y)
  rw [run_pieces4]
  exact loop_pieces c arg0 harg0 arg1 harg1 arg2 harg2 arg3 harg3 arg4 harg4 arg5 harg5 x0 x1 x2 x3 _ (le_refl _)

theorem out5 (c : Dev nD) (arg0 : Memref sig .tc .vmem S72x96x8192 .f32) (harg0 : arg0.IsWhole) (arg1 : Memref sig .tc .vmem S32x96 .f32) (harg1 : arg1.IsWhole) (arg2 : Memref sig .tc .vmem S1x32 .f32) (harg2 : arg2.IsWhole) (arg3 : Memref sig .tc .vmem S4x1x384x384 .f32) (harg3 : arg3.IsWhole) (arg4 : Memref sig .tc .vmem S72x1x8192 .f32) (harg4 : arg4.IsWhole) (arg5 : Memref sig .tc .vmem S4x1x384x384 .f32) (harg5 : arg5.IsWhole)
    (x0 : Vec F S72x96x8192 .f32) (x1 : Vec F S32x96 .f32) (x2 : Vec F S1x32 .f32) (x3 : Vec F S4x1x384x384 .f32) : out0_A_5 c arg0 harg0 arg1 harg1 arg2 harg2 arg3 harg3 arg4 harg4 arg5 harg5 x0 x1 x2 x3 = k0_pay2 x3 := by
  funext y
  unfold out0_A_5
  refine View.read_writes_apply_of_pieces _ _ (k0_pay2 x3) _ ?_ y (cover0_A_5 c arg0 harg0 arg1 harg1 arg2 harg2 arg3 harg3 arg4 harg4 arg5 harg5 x0 x1 x2 x3 y)
  rw [run_pieces5]
  intro p hp
  rw [List.mem_singleton] at hp
  subst hp
  intro x
  dsimp only at x ⊢
  rw [View.readAt_full, harg3.read_unread]
  congr 1
  funext a
  apply Fin.ext
  show (x a).val = (![0, 0, 0, 0] : Fin 4 → ℕ) a + 1 * (x a).val
  have h : ∀ a : Fin 4, (![0, 0, 0, 0] : Fin 4 → ℕ) a = 0 := by decide
  rw [h]; omega

/-! ## The arrays -/

/-- The input cut into its blocks. -/
def xBlocks (c : Dev nD) : Vec F S72x96x8192 .f32 :=
  shapeCast S72x96x8192 (transpose S4x18x96x8192 [0, 2, 1, 3] (shapeCast S4x96x18x8192 (m ((c.tc : Thread nD τ).loc main_arg0)) shapeCasts_S4x96x384x384_S4x96x18x8192) transposes_S4x96x18x8192_S4x18x96x8192_0_2_1_3) shapeCasts_S4x18x96x8192_S72x96x8192

theorem V_v2 (c : Dev nD) : V m c main_v2 = xBlocks m c := by
  show StableHlo.after hostOps0 _ (Proc.devRef .tc main_v2) = _
  after_results
  rfl

theorem blk_0 (c : Dev nD) (t : Fin cfg0.N) : iblk m c 0 t = xBlocks m c := by
  rw [← V_v2]
  funext y
  unfold iblk
  refine congrArg (V m c main_v2) ?_
  funext a
  apply Fin.ext
  match a with
  | ⟨0, _⟩ => show 0 * 72 + 1 * (y 0).val = (y 0).val; omega
  | ⟨1, _⟩ => show 0 * 96 + 1 * (y 1).val = (y 1).val; omega
  | ⟨2, _⟩ => show 0 * 8192 + 1 * (y 2).val = (y 2).val; omega

theorem blk_1 (c : Dev nD) (t : Fin cfg0.N) : iblk m c 1 t = m ((c.tc : Thread nD τ).loc main_arg1) := by
  rw [← V_main_arg1 m c]
  funext y
  unfold iblk
  refine congrArg (V m c main_arg1) ?_
  funext a
  apply Fin.ext
  match a with
  | ⟨0, _⟩ => show 0 * 32 + 1 * (y 0).val = (y 0).val; omega
  | ⟨1, _⟩ => show 0 * 96 + 1 * (y 1).val = (y 1).val; omega

theorem blk_2 (c : Dev nD) (t : Fin cfg0.N) : iblk m c 2 t = m ((c.tc : Thread nD τ).loc main_arg2) := by
  rw [← V_main_arg2 m c]
  funext y
  unfold iblk
  refine congrArg (V m c main_arg2) ?_
  funext a
  apply Fin.ext
  match a with
  | ⟨0, _⟩ => show 0 * 1 + 1 * (y 0).val = (y 0).val; omega
  | ⟨1, _⟩ => show 0 * 32 + 1 * (y 1).val = (y 1).val; omega

theorem blk_3 (c : Dev nD) (t : Fin cfg0.N) : iblk m c 3 t = m ((c.tc : Thread nD τ).loc main_arg4) := by
  rw [← V_main_arg4 m c]
  funext y
  unfold iblk
  refine congrArg (V m c main_arg4) ?_
  funext a
  apply Fin.ext
  match a with
  | ⟨0, _⟩ => show 0 * 4 + 1 * (y 0).val = (y 0).val; omega
  | ⟨1, _⟩ => show 0 * 1 + 1 * (y 1).val = (y 1).val; omega
  | ⟨2, _⟩ => show 0 * 384 + 1 * (y 2).val = (y 2).val; omega
  | ⟨3, _⟩ => show 0 * 384 + 1 * (y 3).val = (y 3).val; omega

/-- All the logits. -/
def allLogits (c : Dev nD) : Vec F S72x1x8192 .f32 :=
  logitsOf (xBlocks m c) (m ((c.tc : Thread nD τ).loc main_arg1)) (m ((c.tc : Thread nD τ).loc main_arg2))

/-- All the noise. -/
def allNoise (c : Dev nD) : Vec F S4x1x384x384 .f32 := k0_pay2 (m ((c.tc : Thread nD τ).loc main_arg4))

theorem arr4 (c : Dev nD) : (dats m 0 c).arrAt 4 cfg0.N = allLogits m c := by
  refine (dats m 0 c).arrAt_eq_of_covers 4 _ (by decide +kernel) fun t hf y => ?_
  blk_simp
  rw [after0_4]
  unfold outsAt0
  dsimp only
  rw [out4, blk_0, blk_1, blk_2]
  refine congrArg (allLogits m c) ?_
  funext a
  apply Fin.ext
  match a with
  | ⟨0, _⟩ => show (y 0).val = 0 * 72 + 1 * (y 0).val; omega
  | ⟨1, _⟩ => show (y 1).val = 0 * 1 + 1 * (y 1).val; omega
  | ⟨2, _⟩ => show (y 2).val = 0 * 8192 + 1 * (y 2).val; omega

theorem arr5 (c : Dev nD) : (dats m 0 c).arrAt 5 cfg0.N = allNoise m c := by
  refine (dats m 0 c).arrAt_eq_of_covers 5 _ (by decide +kernel) fun t hf y => ?_
  blk_simp
  rw [after0_5]
  unfold outsAt0
  dsimp only
  rw [out5, blk_3]
  refine congrArg (allNoise m c) ?_
  funext a
  apply Fin.ext
  match a with
  | ⟨0, _⟩ => show (y 0).val = 0 * 4 + 1 * (y 0).val; omega
  | ⟨1, _⟩ => show (y 1).val = 0 * 1 + 1 * (y 1).val; omega
  | ⟨2, _⟩ => show (y 2).val = 0 * 384 + 1 * (y 2).val; omega
  | ⟨3, _⟩ => show (y 3).val = 0 * 384 + 1 * (y 3).val; omega

/-! ## The lines after the region -/

/-- The logits as an image. -/
def logits4 (c : Dev nD) : Vec F S4x1x384x384 .f32 := shapeCast S4x1x384x384 (allLogits m c) shapeCasts_S72x1x8192_S4x1x384x384

/-- Logits and noise together, a row per image. -/
def scores (c : Dev nD) : Vec F S4x1x147456 .f32 := shapeCast S4x1x147456 (addf (logits4 m c) (allNoise m c)) shapeCasts_S4x1x384x384_S4x1x147456

/-- Of scores, the places of the greatest, best first. -/
def best (z : Vec F S4x1x147456 .f32) : Vec F S4x14745 .i32 :=
  shapeCast S4x14745 (Host.topK S4x1x14745 2 (FloatOps.cmpfTotal .gt) z sliceFits_S4x1x147456_S4x1x14745).2 shapeCasts_S4x1x14745_S4x14745

/-- The row numbers, a column. -/
def rowWords : IVec S4x1 32 := broadcastInDim S4x1 ![0] bcast_S4_S4x1_0 (iotaInDim S4 32 0)

/-- Pairs of row and place for the scatter. -/
def pairs (b : IVec S4x14745 32) : IVec S4x14745x2 32 :=
  concatenate S4x14745x2 2 [⟨S4x14745x1, broadcastInDim S4x14745x1 ![0, 1] bcast_S4x14745_S4x14745x1_0_1
      (broadcastInDim S4x14745 ![0, 1] bcast_S4x1_S4x14745_0_1
        (select (cmpi .slt rowWords (broadcastInDim S4x1 ![] bcast_S_S4x1 (constantI S_ 32 0#32))) (addi rowWords (broadcastInDim S4x1 ![] bcast_S_S4x1 (constantI S_ 32 4#32))) rowWords))⟩,
    ⟨S4x14745x1, broadcastInDim S4x14745x1 ![0, 1] bcast_S4x14745_S4x14745x1_0_1
      (select (cmpi .slt b (broadcastInDim S4x14745 ![] bcast_S_S4x14745 (constantI S_ 32 0#32))) (addi b (broadcastInDim S4x14745 ![] bcast_S_S4x14745 (constantI S_ 32 147456#32))) b)⟩]
    concatenates_S4x14745x1_S4x14745x1_S4x14745x2_d2

/-- Zeros with ones scattered over the places of the greatest scores. -/
def marked (z : Vec F S4x1x147456 .f32) : Vec F S4x147456 .f32 :=
  Host.scatter scatter_S4x147456_S4x14745x2_S4x14745_n_01_01_2 (fun _ b => b)
    (broadcastInDim S4x147456 ![] bcast_S_S4x147456 (constant S_ .f32 0x00000000#32) : Vec F S4x147456 .f32) (pairs (best z))
    (broadcastInDim S4x14745 ![] bcast_S_S4x14745 (constant S_ .f32 0x3F800000#32) : Vec F S4x14745 .f32)

/-- The mask as an image. -/
def mask4 (c : Dev nD) : Vec F S4x1x384x384 .f32 := shapeCast S4x1x384x384 (marked (scores m c)) shapeCasts_S4x147456_S4x1x384x384

theorem tail_mask (c : Dev nD) : Pipeline.afterTail₀ cfgs (dats m) 0 (V0 m) [hostOps1] c main_v27 = mask4 m c := by
  unfold Pipeline.afterTail₀
  show StableHlo.after hostOps1 _ (Proc.devRef .tc main_v27) = _
  after_results
  erw [Pipeline.withArrays_arr spec0 launch0.win.arr_inj c _ _ 4, Pipeline.withArrays_arr spec0 launch0.win.arr_inj c _ _ 5]
  erw [arr4, arr5]
  rfl

theorem tail_masked (c : Dev nD) : Pipeline.afterTail₀ cfgs (dats m) 0 (V0 m) [hostOps1] c main_v28 = mulf (logits4 m c) (mask4 m c) := by
  unfold Pipeline.afterTail₀
  show StableHlo.after hostOps1 _ (Proc.devRef .tc main_v28) = _
  after_results
  erw [Pipeline.withArrays_arr spec0 launch0.win.arr_inj c _ _ 4, Pipeline.withArrays_arr spec0 launch0.win.arr_inj c _ _ 5]
  erw [arr4, arr5]
  rfl

/-- The run, with what the two results end at. -/
theorem run_value : θ_run defs (onTc (τ := τ) (main (F := F))) ⟨m, fun _ => 0, ρ⟩ (fun r => ∀ c : Dev nD,
      r.2.mem ((c.tc : Thread nD τ).loc main_v28) = mulf (logits4 m c) (mask4 m c)
      ∧ r.2.mem ((c.tc : Thread nD τ).loc main_v27) = mask4 m c) :=
  (θ_run defs _ _).mono (fun r h c =>
    ⟨((h c).2 main_v28 (Pipeline.mem_restRefs_of main_v28 (by decide) (by decide))).trans (tail_masked m c),
     ((h c).2 main_v27 (Pipeline.mem_restRefs_of main_v27 (by decide) (by decide))).trans (tail_mask m c)⟩) (run_main m ρ)

end Cert.SelectionIdeal.Value

end
-- ==== Proof.Algebra.lean ====
/- The plain selection and the reference leave the same results over the extended reals. -/
module

public import proofs.«01_k».proof.Defs
public import proofs.«01_k».proof.Proof.PreFacts
public import proofs.«01_k».proof.Proof.ScoreReal
public import proofs.«01_k».proof.Proof.Soft
public import proofs.«01_k».proof.Proof.SelectionIdealRun
public import proofs.«01_k».proof.Proof.Gen.SelectionIdeal.Frame
public import Idealize.ShloMosaic.Lib.Claim

@[expose] public section

set_option maxRecDepth 16384

noncomputable section

namespace Cert.Equal

open Idealize.ShloMosaic Idealize.ShloMosaic.TcCoe Idealize.SL.Sem
open Cert.ReferenceIdeal.Value
open Cert.Selection.Value (marked marked_apply asImage_apply placeNo logitsIm scoresIm)

/-- A mark is one or zero. -/
theorem mark_real (z : Vec Ideal Cert.Selection.S4x1x147456 .f32) (n : Fin 4) (j : Fin 147456) : ∃ r : ℝ, (marked z (ValueIdx.ix2 n j) : EReal) = (r : EReal) := by
  rw [marked_apply]
  split
  · exact ⟨1, Ideal.ofBits_one_f32.trans EReal.coe_one.symm⟩
  · exact ⟨0, Ideal.ofBits_zero_f32.trans EReal.coe_zero.symm⟩

theorem through {a y : EReal} (ha : ∃ r : ℝ, a = r) (hy : ∃ r : ℝ, y = r) : (a - y) + y = a := by
  obtain ⟨p, rfl⟩ := ha
  obtain ⟨q, rfl⟩ := hy
  rw [← EReal.coe_sub, ← EReal.coe_add, sub_add_cancel]

theorem passed_apply (a b : FVec Ideal Cert.ReferenceIdeal.S4x1x384x384 .f32) (y : Cert.ReferenceIdeal.S4x1x384x384.Idx) :
    passed a b y = ((a y : EReal) - (b y : EReal)) + (b y : EReal) := rfl

/-- A row per image read as an image. -/
theorem rowAsImage_apply (s : FVec Ideal Cert.Selection.S4x1x147456 .f32) (h : Cert.Selection.S4x1x147456.ShapeCasts Cert.Selection.S4x1x384x384) (y : Cert.Selection.S4x1x384x384.Idx) :
    shapeCast Cert.Selection.S4x1x384x384 s h y = s (ValueIdx.ix3 (y 0) (0 : Fin 1) (placeNo y)) := by
  have h1 : (y 1).val = 0 := congrArg Fin.val (Subsingleton.elim (α := Fin 1) (y 1) 0)
  exact shapeCast_apply _ _ _ _ (by
    rw [rowMajor_val3 _ 147456 147456 rfl rfl, rowMajor_val4 _ 147456 147456 384 rfl rfl rfl, h1]
    show (y 0).val * 147456 + 0 * 147456 + ((y 2).val * 384 + (y 3).val) = (y 0).val * 147456 + 0 * 147456 + (y 2).val * 384 + (y 3).val
    omega)

theorem marks_image_real (z : Vec Ideal Cert.Selection.S4x1x147456 .f32) (y : Cert.Selection.S4x1x384x384.Idx) :
    ∃ r : ℝ, (shapeCast Cert.Selection.S4x1x384x384 (marked z) Cert.Selection.Gen.shapeCasts_S4x147456_S4x1x384x384 y : EReal) = (r : EReal) := by
  obtain ⟨r, h⟩ := mark_real z (y 0) (placeNo y)
  exact ⟨r, (asImage_apply _ y).trans h⟩

/-- Taking real values off and putting them back leaves a real image. -/
theorem passed_eq (a b : FVec Ideal Cert.ReferenceIdeal.S4x1x384x384 .f32) (ha : ∀ y, ∃ r : ℝ, a y = (r : EReal)) (hb : ∀ y, ∃ r : ℝ, b y = (r : EReal)) : passed a b = a :=
  funext fun y => (passed_apply a b y).trans (through (ha y) (hb y))

theorem row_image_real (s : FVec Ideal Cert.Selection.S4x1x147456 .f32) (hs : ∀ n p, ∃ r : ℝ, s (ValueIdx.ix3 n (0 : Fin 1) p) = (r : EReal))
    (h : Cert.Selection.S4x1x147456.ShapeCasts Cert.Selection.S4x1x384x384) (y : Cert.Selection.S4x1x384x384.Idx) :
    ∃ r : ℝ, shapeCast Cert.Selection.S4x1x384x384 s h y = (r : EReal) := by
  rw [rowAsImage_apply]
  exact hs (y 0) (placeNo y)

section

variable (x : FVec Ideal Cert.ReferenceIdeal.S4x96x384x384 .f32) (w1 : FVec Ideal Cert.ReferenceIdeal.S32x96 .f32) (w2 : FVec Ideal Cert.ReferenceIdeal.S1x32 .f32)
  (t : FVec Ideal Cert.ReferenceIdeal.S1 .f32) (u : FVec Ideal Cert.ReferenceIdeal.S4x1x384x384 .f32)
  [Cert.Pre_finite_and_drawn.Facts] (h : Cert.Pre_finite_and_drawn.fn (F := Ideal) x w1 w2 t u = fun _ => 1#1)
include h

/-- The reference's mask is the mask of the scores. -/
theorem mask_eq :
    passed (shapeCast Cert.ReferenceIdeal.S4x1x384x384 (marked (F := Ideal) (softOf (heated (refScores x w1 w2 u) t))) Cert.ReferenceIdeal.Gen.shapeCasts_S4x147456_S4x1x384x384)
        (shapeCast Cert.ReferenceIdeal.S4x1x384x384 (softOf (heated (refScores x w1 w2 u) t)) Cert.ReferenceIdeal.Gen.shapeCasts_S4x1x147456_S4x1x384x384)
      = shapeCast Cert.ReferenceIdeal.S4x1x384x384 (marked (F := Ideal) (scoresIm x w1 w2 u)) Cert.ReferenceIdeal.Gen.shapeCasts_S4x147456_S4x1x384x384 := by
  obtain ⟨hx, hw1, hw2, ht, hu⟩ := pre_elements x w1 w2 t u h
  have hs := score_real x w1 w2 u hx hw1 hw2 hu
  have ht := ht (ValueIdx.ix1 (0 : Fin 1))
  rw [passed_eq _ _ (marks_image_real _) (row_image_real _ (fun n => (soft_keeps _ t hs ht n).1) _), marks_eq _ t hs ht, scores_eq]

end

/-- The claim: over the extended reals the selection's results are the reference's. -/
theorem same_values : Cert.algebraic_SelectionIdeal_ReferenceIdeal_pre_finite_and_drawn (hSelectionIdeal := Cert.SelectionIdeal.Gen.facts) (hReferenceIdeal := Cert.ReferenceIdeal.Gen.facts)
    (hPre_finite_and_drawn := preFacts) := fun m g m' g' hpre hargs =>
  ⟨fun c => mulf (Cert.SelectionIdeal.Value.logits4 m c) (Cert.SelectionIdeal.Value.mask4 m c), fun c => Cert.SelectionIdeal.Value.mask4 m c,
   (θ_run Cert.SelectionIdeal.defs _ _).mono (fun r h c => ⟨(h.1 c).1, (h.1 c).2, h.2.1 c⟩)
     (θ_run_and (Cert.SelectionIdeal.Value.run_value m g) (Cert.SelectionIdeal.Gen.frame m g)),
   (θ_run Cert.ReferenceIdeal.defs _ _).mono (fun r h c => by
     have hm : res_main_v52 m' c = Cert.SelectionIdeal.Value.mask4 m c := by
       rw [res_mask, argSoft, (hargs c).1, (hargs c).2.1, (hargs c).2.2.1, (hargs c).2.2.2.1, (hargs c).2.2.2.2]
       letI := preFacts
       exact mask_eq _ _ _ _ _ (hpre c)
     refine ⟨(h c).1.trans ?_, (h c).2.1.trans hm, (h c).2.2⟩
     rw [res_masked, hm, (hargs c).1, (hargs c).2.1, (hargs c).2.2.1, ← logits_eq]
     rfl)
     (Cert.ReferenceIdeal.Value.run (F := Ideal) m' g')⟩

end Cert.Equal

end
-- ==== Proof.lean ====
/- The certificate, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Selection
public import proofs.«01_k».proof.Proof.Gen.Selection.Skeleton
public import proofs.«01_k».proof.Proof.Gen.Selection.Launch
public import proofs.«01_k».proof.Proof.Gen.Selection.Points
public import proofs.«01_k».proof.Proof.Gen.Selection.Frame
public import proofs.«01_k».proof.Proof.Gen.SelectionIdeal
public import proofs.«01_k».proof.Proof.Gen.SelectionIdeal.Skeleton
public import proofs.«01_k».proof.Proof.Gen.SelectionIdeal.Launch
public import proofs.«01_k».proof.Proof.Gen.SelectionIdeal.Points
public import proofs.«01_k».proof.Proof.Gen.SelectionIdeal.Frame
public import proofs.«01_k».proof.Proof.Gen.ReferenceIdeal
public import proofs.«01_k».proof.Proof.Gen.ReferenceIdeal.Run
public import proofs.«01_k».proof.Proof.KernelFrame
public import proofs.«01_k».proof.Proof.BitExact
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The reference's frame: its run, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim := ⟨Cert.Kernel.Gen.facts, Cert.Selection.Gen.facts, Cert.SelectionIdeal.Gen.facts, Cert.ReferenceIdeal.Gen.facts, Cert.Equal.preFacts,
  fun m ρ _ => Cert.Kernel.Value.frame m ρ, fun m ρ _ => Cert.Selection.Gen.frame m ρ, fun m ρ _ => Cert.SelectionIdeal.Gen.frame m ρ,
  fun m ρ _ => Cert.SelectionIdeal.Gen.frame m ρ, frame_reference, fun m ρ _ => frame_reference m ρ trivial, Cert.Agree.same_bits, trivial, Cert.Equal.same_values⟩

end Cert.Proof

end
